-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "clip_squared" .f32 0x2B8CBCCC#32 ((77371252064649 / 77371252455336267181195264 : ℝ) : EReal)
  ∧ IdealRules.named_const.Statement Cert.KernelIdeal.κ "scale_over_count" .f32 0x384D000D#32 ((13421773 / 274609471488 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x2048x16x64 : Shape := ⟨4, ![2, 2048, 16, 64]⟩
abbrev S64x64 : Shape := ⟨2, ![64, 64]⟩
abbrev S64 : Shape := ⟨1, ![64]⟩
abbrev S1 : Shape := ⟨1, ![1]⟩
abbrev S2x2047x16x64 : Shape := ⟨4, ![2, 2047, 16, 64]⟩
abbrev S2x2046x16x64 : Shape := ⟨4, ![2, 2046, 16, 64]⟩
abbrev S_ : Shape := ⟨0, ![]⟩
abbrev S2x2047x16 : Shape := ⟨3, ![2, 2047, 16]⟩
abbrev S2x2046x16 : Shape := ⟨3, ![2, 2046, 16]⟩

class Facts : Prop where
  transposes_S64x64_S64x64_1_0 : S64x64.Transposes [1, 0] S64x64
  slices_S2x2048x16x64_S2x2047x16x64_0_0_0_0 : S2x2048x16x64.Slices ![0, 0, 0, 0] S2x2047x16x64
  slices_S2x2048x16x64_S2x2047x16x64_0_1_0_0 : S2x2048x16x64.Slices ![0, 1, 0, 0] S2x2047x16x64
  slices_S2x2048x16x64_S2x2046x16x64_0_0_0_0 : S2x2048x16x64.Slices ![0, 0, 0, 0] S2x2046x16x64
  slices_S2x2048x16x64_S2x2046x16x64_0_2_0_0 : S2x2048x16x64.Slices ![0, 2, 0, 0] S2x2046x16x64
  reducesTo_S2x2047x16x64_S2x2047x16_d3 : S2x2047x16x64.ReducesTo [3] S2x2047x16
  h_S_ : 0 < S_.numel
  reducesTo_S2x2046x16x64_S2x2046x16_d3 : S2x2046x16x64.ReducesTo [3] S2x2046x16
  bcast_S_S2x2048x16x64 : S_.BroadcastsInDim S2x2048x16x64 (![] : Fin 0 → Fin S2x2048x16x64.rank)
  reducesTo_S2x2048x16x64_S_d0_1_2_3 : S2x2048x16x64.ReducesTo [0, 1, 2, 3] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S2x2047x16 : S_.BroadcastsInDim S2x2047x16 (![] : Fin 0 → Fin S2x2047x16.rank)
  reducesTo_S2x2047x16_S_d0_1_2 : S2x2047x16.ReducesTo [0, 1, 2] S_
  bcast_S_S2x2046x16 : S_.BroadcastsInDim S2x2046x16 (![] : Fin 0 → Fin S2x2046x16.rank)
  reducesTo_S2x2046x16_S_d0_1_2 : S2x2046x16.ReducesTo [0, 1, 2] S_
  dot_S2x2048x16x64_S64x64_S2x2048x16x64_3_0_012_1_n_n_wf : DotDims.WF S2x2048x16x64 S64x64 S2x2048x16x64 [3] [0] [0, 1, 2] [1] [] []

variable [Facts]

def dot_S2x2048x16x64_S64x64_S2x2048x16x64_3_0_012_1_n_n : DotDims S2x2048x16x64 S64x64 S2x2048x16x64 where
  lhsContracting := [3]
  rhsContracting := [0]
  lhsNonContracting := [0, 1, 2]
  rhsNonContracting := [1]
  lhsBatch := []
  rhsBatch := []
  wf := dot_S2x2048x16x64_S64x64_S2x2048x16x64_3_0_012_1_n_n_wf
def fn_part2 {F : FTy → Type} [FloatOps F] (main_v9 : FVec F S2x2047x16 .f32) (main_v12 : FVec F S2x2046x16 .f32) (main_v35 : IVec S_ 1) : IVec S_ 1 :=
  let main_cst_10 : FVec F S_ .f32 := constant S_ .f32 0x00000000#32
  let main_v36 : FVec F S2x2047x16 .f32 := broadcastInDim S2x2047x16 ![] bcast_S_S2x2047x16 main_cst_10
  let main_v37 : IVec S2x2047x16 1 := cmpf .oeq main_v9 main_v36
  let main_cst_11 : FVec F S_ .f32 := constant S_ .f32 0x0DA24260#32
  let main_v38 : FVec F S2x2047x16 .f32 := broadcastInDim S2x2047x16 ![] bcast_S_S2x2047x16 main_cst_11
  let main_v39 : IVec S2x2047x16 1 := cmpf .oge main_v9 main_v38
  let main_v40 : IVec S2x2047x16 1 := ori main_v37 main_v39
  let main_c_12 : IVec S_ 1 := constantI S_ 1 1#1
  let main_v41 : IVec S_ 1 := (fun x v => Host.reduce IntOp.andi x v reducesTo_S2x2047x16_S_d0_1_2 h_S_) main_v40 main_c_12
  let main_v42 : IVec S_ 1 := andi main_v35 main_v41
  let main_cst_13 : FVec F S_ .f32 := constant S_ .f32 0x00000000#32
  let main_v43 : FVec F S2x2046x16 .f32 := broadcastInDim S2x2046x16 ![] bcast_S_S2x2046x16 main_cst_13
  let main_v44 : IVec S2x2046x16 1 := cmpf .oeq main_v12 main_v43
  let main_cst_14 : FVec F S_ .f32 := constant S_ .f32 0x358637BD#32
  let main_v45 : FVec F S2x2046x16 .f32 := broadcastInDim S2x2046x16 ![] bcast_S_S2x2046x16 main_cst_14
  let main_v46 : IVec S2x2046x16 1 := cmpf .oge main_v12 main_v45
  let main_v47 : IVec S2x2046x16 1 := ori main_v44 main_v46
  let main_c_15 : IVec S_ 1 := constantI S_ 1 1#1
  let main_v48 : IVec S_ 1 := (fun x v => Host.reduce IntOp.andi x v reducesTo_S2x2046x16_S_d0_1_2 h_S_) main_v47 main_c_15
  let main_v49 : IVec S_ 1 := andi main_v42 main_v48
  main_v49

def fn_part1 {F : FTy → Type} [FloatOps F] (main_arg2 : FVec F S64 .f32) (main_arg3 : FVec F S1 .f32) (main_v9 : FVec F S2x2047x16 .f32) (main_v12 : FVec F S2x2046x16 .f32) (main_v16 : IVec S_ 1) (main_v17 : FVec F S64x64 .f32) (main_v18 : FVec F S64x64 .f32) : IVec S_ 1 :=
  let main_v19 : IVec S64x64 1 := cmpf .olt main_v17 main_v18
  let main_c_3 : IVec S_ 1 := constantI S_ 1 1#1
  let main_v20 : IVec S_ 1 := (fun x v => Host.reduce IntOp.andi x v reducesTo_S64x64_S_d0_1 h_S_) main_v19 main_c_3
  let main_v21 : IVec S_ 1 := andi main_v16 main_v20
  let main_v22 : FVec F S64 .f32 := Host.absf main_arg2
  let main_cst_4 : FVec F S_ .f32 := constant S_ .f32 0x7F800000#32
  let main_v23 : FVec F S64 .f32 := broadcastInDim S64 ![] bcast_S_S64 main_cst_4
  let main_v24 : IVec S64 1 := cmpf .olt main_v22 main_v23
  let main_c_5 : IVec S_ 1 := constantI S_ 1 1#1
  let main_v25 : IVec S_ 1 := (fun x v => Host.reduce IntOp.andi x v reducesTo_S64_S_d0 h_S_) main_v24 main_c_5
  let main_v26 : IVec S_ 1 := andi main_v21 main_v25
  let main_cst_6 : FVec F S_ .f32 := constant S_ .f32 0x00000000#32
  let main_v27 : FVec F S1 .f32 := broadcastInDim S1 ![] bcast_S_S1 main_cst_6
  let main_v28 : IVec S1 1 := cmpf .oge main_arg3 main_v27
  let main_cst_7 : FVec F S_ .f32 := constant S_ .f32 0x3DCCCCCD#32
  let main_v29 : FVec F S1 .f32 := broadcastInDim S1 ![] bcast_S_S1 main_cst_7
  let main_v30 : FVec F S1 .f32 := mulf main_arg3 main_v29
  let main_cst_8 : FVec F S_ .f32 := constant S_ .f32 0x40000000#32
  let main_v31 : FVec F S1 .f32 := broadcastInDim S1 ![] bcast_S_S1 main_cst_8
  let main_v32 : IVec S1 1 := cmpf .ole main_v30 main_v31
  let main_v33 : IVec S1 1 := andi main_v28 main_v32
  let main_c_9 : IVec S_ 1 := constantI S_ 1 1#1
  let main_v34 : IVec S_ 1 := (fun x v => Host.reduce IntOp.andi x v reducesTo_S1_S_d0 h_S_) main_v33 main_c_9
  let main_v35 : IVec S_ 1 := andi main_v26 main_v34
  fn_part2 (F := F) main_v9 main_v12 main_v35

def fn {F : FTy → Type} [FloatOps F] (main_arg0 : FVec F S2x2048x16x64 .f32) (main_arg1 : FVec F S64x64 .f32) (main_arg2 : FVec F S64 .f32) (main_arg3 : FVec F S1 .f32) : IVec S_ 1 :=
  let main_v0 : FVec F S64x64 .f32 := (transpose S64x64 [1, 0] · transposes_S64x64_S64x64_1_0) main_arg1
  let main_v1 : FVec F S2x2048x16x64 .f32 := (fun l r => Host.dotGeneral dot_S2x2048x16x64_S64x64_S2x2048x16x64_3_0_012_1_n_n none l r) main_arg0 main_v0
  let main_v2 : FVec F S2x2047x16x64 .f32 := (extractStridedSlice S2x2047x16x64 ![0, 0, 0, 0] · slices_S2x2048x16x64_S2x2047x16x64_0_0_0_0) main_v1
  let main_v3 : FVec F S2x2047x16x64 .f32 := (extractStridedSlice S2x2047x16x64 ![0, 1, 0, 0] · slices_S2x2048x16x64_S2x2047x16x64_0_1_0_0) main_v1
  let main_v4 : FVec F S2x2047x16x64 .f32 := subf main_v2 main_v3
  let main_v5 : FVec F S2x2046x16x64 .f32 := (extractStridedSlice S2x2046x16x64 ![0, 0, 0, 0] · slices_S2x2048x16x64_S2x2046x16x64_0_0_0_0) main_v1
  let main_v6 : FVec F S2x2046x16x64 .f32 := (extractStridedSlice S2x2046x16x64 ![0, 2, 0, 0] · slices_S2x2048x16x64_S2x2046x16x64_0_2_0_0) main_v1
  let main_v7 : FVec F S2x2046x16x64 .f32 := subf main_v5 main_v6
  let main_v8 : FVec F S2x2047x16x64 .f32 := mulf main_v4 main_v4
  let main_cst : FVec F S_ .f32 := constant S_ .f32 0x00000000#32
  let main_v9 : FVec F S2x2047x16 .f32 := (fun x v => Host.reduceAdd x v reducesTo_S2x2047x16x64_S2x2047x16_d3 h_S_) main_v8 main_cst
  let main_v10 : FVec F S2x2046x16x64 .f32 := mulf main_v7 main_v7
  let main_cst_0 : FVec F S_ .f32 := constant S_ .f32 0x00000000#32
  let main_v11 : FVec F S2x2046x16 .f32 := (fun x v => Host.reduceAdd x v reducesTo_S2x2046x16x64_S2x2046x16_d3 h_S_) main_v10 main_cst_0
  let main_v12 : FVec F S2x2046x16 .f32 := Host.sqrt main_v11
  let main_v13 : FVec F S2x2048x16x64 .f32 := Host.absf main_arg0
  let main_cst_1 : FVec F S_ .f32 := constant S_ .f32 0x7F800000#32
  let main_v14 : FVec F S2x2048x16x64 .f32 := broadcastInDim S2x2048x16x64 ![] bcast_S_S2x2048x16x64 main_cst_1
  let main_v15 : IVec S2x2048x16x64 1 := cmpf .olt main_v13 main_v14
  let main_c : IVec S_ 1 := constantI S_ 1 1#1
  let main_v16 : IVec S_ 1 := (fun x v => Host.reduce IntOp.andi x v reducesTo_S2x2048x16x64_S_d0_1_2_3 h_S_) main_v15 main_c
  let main_v17 : FVec F S64x64 .f32 := Host.absf main_arg1
  let main_cst_2 : FVec F S_ .f32 := constant S_ .f32 0x7F800000#32
  let main_v18 : FVec F S64x64 .f32 := broadcastInDim S64x64 ![] bcast_S_S64x64 main_cst_2
  fn_part1 (F := F) main_arg2 main_arg3 main_v9 main_v12 main_v16 main_v17 main_v18
-- ==== Kernel.lean ====
abbrev S2x2048x16x64 : Shape := ⟨4, ![2, 2048, 16, 64]⟩
abbrev S64x64 : Shape := ⟨2, ![64, 64]⟩
abbrev S64 : Shape := ⟨1, ![64]⟩
abbrev S1 : Shape := ⟨1, ![1]⟩
abbrev S1x64 : Shape := ⟨2, ![1, 64]⟩
abbrev S512x8 : Shape := ⟨2, ![512, 8]⟩
abbrev S8x512 : Shape := ⟨2, ![8, 512]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x32x2 : Shape := ⟨3, ![2048, 32, 2]⟩
abbrev S2048x64 : Shape := ⟨2, ![2048, 64]⟩
abbrev S2047x64 : Shape := ⟨2, ![2047, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S32x2 : Shape := ⟨2, ![32, 2]⟩
abbrev S8x64 : Shape := ⟨2, ![8, 64]⟩
abbrev S512 : Shape := ⟨1, ![512]⟩
abbrev S1x512 : Shape := ⟨2, ![1, 512]⟩
abbrev S1x1x1x512 : Shape := ⟨4, ![1, 1, 1, 512]⟩
abbrev S8x1x1x512 : Shape := ⟨4, ![8, 1, 1, 512]⟩
abbrev S8x8 : Shape := ⟨2, ![8, 8]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x1 : Shape := ⟨2, ![1, 1]⟩
abbrev S2048x8x64 : Shape := ⟨3, ![2048, 8, 64]⟩
abbrev S2047x512 : Shape := ⟨2, ![2047, 512]⟩
abbrev S2047x8 : Shape := ⟨2, ![2047, 8]⟩
abbrev S2046x512 : Shape := ⟨2, ![2046, 512]⟩
abbrev S2046x8 : Shape := ⟨2, ![2046, 8]⟩
abbrev S1x8 : Shape := ⟨2, ![1, 8]⟩
abbrev S2048x8 : Shape := ⟨2, ![2048, 8]⟩
abbrev S2048x511 : Shape := ⟨2, ![2048, 511]⟩

abbrev nBuf : Space → Nat
  | .hbm => 90
  | .vmem => 11
  | .smem => 1
  | _ => 0

abbrev bufTy : (tb : Table) → Fin (tcTables nBuf tb) → BufTy
  | .hbm, ⟨0, _⟩ => ⟨S2x2048x16x64, .f32⟩
  | .hbm, ⟨1, _⟩ => ⟨S64x64, .f32⟩
  | .hbm, ⟨2, _⟩ => ⟨S64, .f32⟩
  | .hbm, ⟨3, _⟩ => ⟨S1, .f32⟩
  | .hbm, ⟨4, _⟩ => ⟨S64, .f32⟩
  | .hbm, ⟨5, _⟩ => ⟨S1x64, .f32⟩
  | .hbm, ⟨6, _⟩ => ⟨S64, .f32⟩
  | .hbm, ⟨7, _⟩ => ⟨S512x8, .bf16⟩
  | .hbm, ⟨8, _⟩ => ⟨S8x512, .bf16⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S2048, .f32⟩
  | .hbm, ⟨26, _⟩ => ⟨S2048x1, .f32⟩
  | .hbm, ⟨27, _⟩ => ⟨S1x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x32x2, .f32⟩
  | .hbm, ⟨33, _⟩ => ⟨S2048x64, .f32⟩
  | .hbm, ⟨34, _⟩ => ⟨S2048x32, .f32⟩
  | .hbm, ⟨35, _⟩ => ⟨S2048x32x2, .f32⟩
  | .hbm, ⟨36, _⟩ => ⟨S2048x64, .f32⟩
  | .hbm, ⟨37, _⟩ => ⟨S2048x64, .f32⟩
  | .hbm, ⟨38, _⟩ => ⟨S2048x64, .f32⟩
  | .hbm, ⟨39, _⟩ => ⟨S1x64, .f32⟩
  | .hbm, ⟨40, _⟩ => ⟨S2047x64, .f32⟩
  | .hbm, ⟨41, _⟩ => ⟨S2048x64, .f32⟩
  | .hbm, ⟨42, _⟩ => ⟨S1x64, .f32⟩
  | .hbm, ⟨43, _⟩ => ⟨S2047x64, .f32⟩
  | .hbm, ⟨44, _⟩ => ⟨S2048x64, .f32⟩
  | .hbm, ⟨45, _⟩ => ⟨S1x2048x1x64, .f32⟩
  | .hbm, ⟨46, _⟩ => ⟨S1x2048x8x64, .f32⟩
  | .hbm, ⟨47, _⟩ => ⟨S2048x512, .f32⟩
  | .hbm, ⟨48, _⟩ => ⟨S1x2048x1x64, .f32⟩
  | .hbm, ⟨49, _⟩ => ⟨S1x2048x8x64, .f32⟩
  | .hbm, ⟨50, _⟩ => ⟨S2048x512, .f32⟩
  | .hbm, ⟨51, _⟩ => ⟨S32x2, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S1x64, .f32⟩
  | .hbm, ⟨58, _⟩ => ⟨S8x64, .f32⟩
  | .hbm, ⟨59, _⟩ => ⟨S512, .f32⟩
  | .hbm, ⟨60, _⟩ => ⟨S64, .f32⟩
  | .hbm, ⟨61, _⟩ => ⟨S64, .f32⟩
  | .hbm, ⟨62, _⟩ => ⟨S1x64, .f32⟩
  | .hbm, ⟨63, _⟩ => ⟨S8x64, .f32⟩
  | .hbm, ⟨64, _⟩ => ⟨S512, .f32⟩
  | .hbm, ⟨65, _⟩ => ⟨S1x512, .f32⟩
  | .hbm, ⟨66, _⟩ => ⟨S1x1x1x512, .f32⟩
  | .hbm, ⟨67, _⟩ => ⟨S8x1x1x512, .f32⟩
  | .hbm, ⟨68, _⟩ => ⟨S8x512, .f32⟩
  | .hbm, ⟨69, _⟩ => ⟨S1x512, .f32⟩
  | .hbm, ⟨70, _⟩ => ⟨S1x1x1x512, .f32⟩
  | .hbm, ⟨71, _⟩ => ⟨S8x1x1x512, .f32⟩
  | .hbm, ⟨72, _⟩ => ⟨S8x512, .f32⟩
  | .hbm, ⟨73, _⟩ => ⟨S8x8, .i32⟩
  | .hbm, ⟨74, _⟩ => ⟨S8x8, .i32⟩
  | .hbm, ⟨75, _⟩ => ⟨S_, .i32⟩
  | .hbm, ⟨76, _⟩ => ⟨S8x8, .i32⟩
  | .hbm, ⟨77, _⟩ => ⟨S8x8, .i32⟩
  | .hbm, ⟨78, _⟩ => ⟨S8x8, .i1⟩
  | .hbm, ⟨79, _⟩ => ⟨S8x8, .f32⟩
  | .hbm, ⟨80, _⟩ => ⟨S64x64, .f32⟩
  | .hbm, ⟨81, _⟩ => ⟨S8x1x8x1, .f32⟩
  | .hbm, ⟨82, _⟩ => ⟨S1x64x1x64, .f32⟩
  | .hbm, ⟨83, _⟩ => ⟨S8x64x8x64, .f32⟩
  | .hbm, ⟨84, _⟩ => ⟨S8x64x8x64, .f32⟩
  | .hbm, ⟨85, _⟩ => ⟨S8x64x8x64, .f32⟩
  | .hbm, ⟨86, _⟩ => ⟨S512x512, .f32⟩
  | .hbm, ⟨87, _⟩ => ⟨S512x512, .bf16⟩
  | .hbm, ⟨88, _⟩ => ⟨S1x1, .f32⟩
  | .hbm, ⟨89, _⟩ => ⟨S2x2048x16x64, .f32⟩
  | .local _ .vmem, ⟨0, _⟩ => ⟨S1x2048x8x64, .f32⟩
  | .local _ .vmem, ⟨1, _⟩ => ⟨S1x2048x8x64, .f32⟩
  | .local _ .vmem, ⟨2, _⟩ => ⟨S512x512, .bf16⟩
  | .local _ .vmem, ⟨3, _⟩ => ⟨S512x8, .bf16⟩
  | .local _ .vmem, ⟨4, _⟩ => ⟨S8x512, .bf16⟩
  | .local _ .vmem, ⟨5, _⟩ => ⟨S2048x512, .f32⟩
  | .local _ .vmem, ⟨6, _⟩ => ⟨S2048x512, .f32⟩
  | .local _ .vmem, ⟨7, _⟩ => ⟨S8x512, .f32⟩
  | .local _ .vmem, ⟨8, _⟩ => ⟨S8x512, .f32⟩
  | .local _ .vmem, ⟨9, _⟩ => ⟨S1x2048x8x64, .f32⟩
  | .local _ .vmem, ⟨10, _⟩ => ⟨S1x2048x8x64, .f32⟩
  | .local _ .smem, ⟨0, _⟩ => ⟨S1x1, .f32⟩
  | _, _ => ⟨S2x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_v1 : Ref sig .tc := ⟨.hbm, 9, rfl⟩
abbrev main_cst_3 : Ref sig .tc := ⟨.hbm, 10, rfl⟩
abbrev main_v2 : Ref sig .tc := ⟨.hbm, 11, rfl⟩
abbrev main_v3 : Ref sig .tc := ⟨.hbm, 12, rfl⟩
abbrev main_cst_4 : Ref sig .tc := ⟨.hbm, 13, rfl⟩
abbrev main_v4 : Ref sig .tc := ⟨.hbm, 14, rfl⟩
abbrev main_v5 : Ref sig .tc := ⟨.hbm, 15, rfl⟩
abbrev main_cst_5 : Ref sig .tc := ⟨.hbm, 16, rfl⟩
abbrev main_v6 : Ref sig .tc := ⟨.hbm, 17, rfl⟩
abbrev main_v7 : Ref sig .tc := ⟨.hbm, 18, rfl⟩
abbrev main_cst_6 : Ref sig .tc := ⟨.hbm, 19, rfl⟩
abbrev main_v8 : Ref sig .tc := ⟨.hbm, 20, rfl⟩
abbrev main_v9 : Ref sig .tc := ⟨.hbm, 21, rfl⟩
abbrev main_cst_7 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_c : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2048x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x8x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "clip_squared" => some ((77371252064649 / 77371252455336267181195264 : ℝ) : EReal)
  | "scale_over_count" => some ((13421773 / 274609471488 : ℝ) : EReal)
  | _ => none
-- ==== ReferenceIdeal.lean ====
abbrev S2x2048x16x64 : Shape := ⟨4, ![2, 2048, 16, 64]⟩
abbrev S64x64 : Shape := ⟨2, ![64, 64]⟩
abbrev S64 : Shape := ⟨1, ![64]⟩
abbrev S1 : Shape := ⟨1, ![1]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2x16x2048x64 : Shape := ⟨4, ![2, 16, 2048, 64]⟩
abbrev S32x2048x64 : Shape := ⟨3, ![32, 2048, 64]⟩
abbrev S1x1x64 : Shape := ⟨3, ![1, 1, 64]⟩
abbrev S32x2047x64 : Shape := ⟨3, ![32, 2047, 64]⟩
abbrev S32x2047 : Shape := ⟨2, ![32, 2047]⟩
abbrev S32x2046x64 : Shape := ⟨3, ![32, 2046, 64]⟩
abbrev S32x2046 : Shape := ⟨2, ![32, 2046]⟩
abbrev S32x2048 : Shape := ⟨2, ![32, 2048]⟩
abbrev S2x16x2048 : Shape := ⟨3, ![2, 16, 2048]⟩
abbrev S2x2048x16 : Shape := ⟨3, ![2, 2048, 16]⟩
abbrev S1x2048x1 : Shape := ⟨3, ![1, 2048, 1]⟩
abbrev S2x2048x16x1 : Shape := ⟨4, ![2, 2048, 16, 1]⟩
abbrev S1x1x1x1 : Shape := ⟨4, ![1, 1, 1, 1]⟩
abbrev S2x2048x16x32 : Shape := ⟨4, ![2, 2048, 16, 32]⟩
abbrev S2x2048x16x32x1 : Shape := ⟨5, ![2, 2048, 16, 32, 1]⟩
abbrev S2x2048x16x32x2 : Shape := ⟨5, ![2, 2048, 16, 32, 2]⟩

abbrev nBuf : Space → Nat
  | .hbm => 222
  | .vmem => 0
  | .smem => 0
  | _ => 0

abbrev hbmTy0_0 (i : Nat) : BufTy := match i % 128 with
  | 0 => ⟨S2x2048x16x64, .f32⟩
  | 1 => ⟨S64x64, .f32⟩
  | 2 => ⟨S64, .f32⟩
  | 3 => ⟨S1, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S2048, .f32⟩
  | 21 => ⟨S2048x1, .f32⟩
  | 22 => ⟨S1x32, .f32⟩
  | 23 => ⟨S2048x32, .f32⟩
  | 24 => ⟨S2048x32, .f32⟩
  | 25 => ⟨S2048x32, .f32⟩
  | 26 => ⟨S2048x32, .f32⟩
  | 27 => ⟨S2048x32, .f32⟩
  | 28 => ⟨S2x16x2048x64, .f32⟩
  | 29 => ⟨S32x2048x64, .f32⟩
  | 30 => ⟨S64x64, .f32⟩
  | 31 => ⟨S32x2048x64, .f32⟩
  | 32 => ⟨S1x1x64, .f32⟩
  | 33 => ⟨S32x2048x64, .f32⟩
  | 34 => ⟨S32x2048x64, .f32⟩
  | 35 => ⟨S32x2047x64, .f32⟩
  | 36 => ⟨S32x2047x64, .f32⟩
  | 37 => ⟨S32x2047x64, .f32⟩
  | 38 => ⟨S32x2047x64, .f32⟩
  | 39 => ⟨S_, .f32⟩
  | 40 => ⟨S32x2047, .f32⟩
  | 41 => ⟨S32x2047, .f32⟩
  | 42 => ⟨S32x2046x64, .f32⟩
  | 43 => ⟨S32x2046x64, .f32⟩
  | 44 => ⟨S32x2046x64, .f32⟩
  | 45 => ⟨S32x2046x64, .f32⟩
  | 46 => ⟨S_, .f32⟩
  | 47 => ⟨S32x2046, .f32⟩
  | 48 => ⟨S32x2046, .f32⟩
  | 49 => ⟨S32x2046, .f32⟩
  | 50 => ⟨S32x2046, .f32⟩
  | 51 => ⟨S32x2046, .f32⟩
  | 52 => ⟨S32x2046, .f32⟩
  | 53 => ⟨S_, .f32⟩
  | 54 => ⟨S_, .f32⟩
  | 55 => ⟨S32x2046, .f32⟩
  | 56 => ⟨S32x2046, .f32⟩
  | 57 => ⟨S32x2046, .f32⟩
  | 58 => ⟨S_, .f32⟩
  | 59 => ⟨S32x2046, .f32⟩
  | 60 => ⟨S32x2046, .f32⟩
  | 61 => ⟨S_, .f32⟩
  | 62 => ⟨S32x2046, .f32⟩
  | 63 => ⟨S32x2046, .f32⟩
  | 64 => ⟨S_, .f32⟩
  | 65 => ⟨S32x2048, .f32⟩
  | 66 => ⟨S_, .i32⟩
  | 67 => ⟨S1, .i32⟩
  | 68 => ⟨S32x2048, .f32⟩
  | 69 => ⟨S_, .f32⟩
  | 70 => ⟨S32x2048, .f32⟩
  | 71 => ⟨S32x2048, .f32⟩
  | 72 => ⟨S2x16x2048, .f32⟩
  | 73 => ⟨S2x2048x16, .f32⟩
  | 74 => ⟨S_, .f32⟩
  | 75 => ⟨S_, .f32⟩
  | 76 => ⟨S2x2048x16, .f32⟩
  | 77 => ⟨S2x2048x16, .f32⟩
  | 78 => ⟨S2x2048x16, .f32⟩
  | 79 => ⟨S2x2048x16, .f32⟩
  | 80 => ⟨S_, .f32⟩
  | 81 => ⟨S2x2048x16, .f32⟩
  | 82 => ⟨S2x2048x16, .f32⟩
  | 83 => ⟨S2048, .f32⟩
  | 84 => ⟨S1x2048x1, .f32⟩
  | 85 => ⟨S2x2048x16, .f32⟩
  | 86 => ⟨S2x2048x16, .f32⟩
  | 87 => ⟨S_, .f32⟩
  | 88 => ⟨S_, .i32⟩
  | 89 => ⟨S_, .f32⟩
  | 90 => ⟨S2x2048x16, .f32⟩
  | 91 => ⟨S2x2048x16, .f32⟩
  | 92 => ⟨S_, .f32⟩
  | 93 => ⟨S2x2048x16, .f32⟩
  | 94 => ⟨S2x2048x16, .f32⟩
  | 95 => ⟨S2x2048x16, .f32⟩
  | 96 => ⟨S2x2048x16, .i32⟩
  | 97 => ⟨S2x2048x16, .f32⟩
  | 98 => ⟨S2x2048x16, .i32⟩
  | 99 => ⟨S2x2048x16, .f32⟩
  | 100 => ⟨S2x2048x16, .f32⟩
  | 101 => ⟨S2x2048x16x1, .f32⟩
  | 102 => ⟨S_, .i32⟩
  | 103 => ⟨S2x2048x16, .i32⟩
  | 104 => ⟨S2x2048x16, .i1⟩
  | 105 => ⟨S_, .i32⟩
  | 106 => ⟨S2x2048x16, .i32⟩
  | 107 => ⟨S2x2048x16, .i32⟩
  | 108 => ⟨S2x2048x16, .i32⟩
  | 109 => ⟨S2x2048x16x1, .i32⟩
  | 110 => ⟨S1, .i32⟩
  | 111 => ⟨S_, .i32⟩
  | 112 => ⟨S2x2048x16x1, .i32⟩
  | 113 => ⟨S2x2048x16x1, .i1⟩
  | 114 => ⟨S1x1x1x1, .i32⟩
  | 115 => ⟨S2x2048x16x1, .i32⟩
  | 116 => ⟨S2x2048x16x1, .i1⟩
  | 117 => ⟨S2x2048x16x1, .i1⟩
  | 118 => ⟨S_, .i1⟩
  | 119 => ⟨S2x2048x16, .i1⟩
  | 120 => ⟨S2x2048x16x32, .f32⟩
  | 121 => ⟨S2x2048x16x32, .i1⟩
  | 122 => ⟨S_, .f32⟩
  | 123 => ⟨S2x2048x16x32, .f32⟩
  | 124 => ⟨S2x2048x16x32, .f32⟩
  | 125 => ⟨S_, .i32⟩
  | 126 => ⟨S2x2048x16, .i32⟩
  | 127 => ⟨S2x2048x16, .i1⟩
  | _ => ⟨S2x2048x16x64, .f32⟩

abbrev hbmTy0_1 (i : Nat) : BufTy := match i % 128 with
  | 0 => ⟨S_, .i32⟩
  | 1 => ⟨S2x2048x16, .i32⟩
  | 2 => ⟨S2x2048x16, .i32⟩
  | 3 => ⟨S2x2048x16, .i32⟩
  | 4 => ⟨S2x2048x16x1, .i32⟩
  | 5 => ⟨S1, .i32⟩
  | 6 => ⟨S_, .i32⟩
  | 7 => ⟨S2x2048x16x1, .i32⟩
  | 8 => ⟨S2x2048x16x1, .i1⟩
  | 9 => ⟨S1x1x1x1, .i32⟩
  | 10 => ⟨S2x2048x16x1, .i32⟩
  | 11 => ⟨S2x2048x16x1, .i1⟩
  | 12 => ⟨S2x2048x16x1, .i1⟩
  | 13 => ⟨S_, .i1⟩
  | 14 => ⟨S2x2048x16, .i1⟩
  | 15 => ⟨S2x2048x16x32, .f32⟩
  | 16 => ⟨S2x2048x16x32, .i1⟩
  | 17 => ⟨S_, .f32⟩
  | 18 => ⟨S2x2048x16x32, .f32⟩
  | 19 => ⟨S2x2048x16x32, .f32⟩
  | 20 => ⟨S_, .i32⟩
  | 21 => ⟨S2x2048x16, .i32⟩
  | 22 => ⟨S2x2048x16, .i1⟩
  | 23 => ⟨S_, .i32⟩
  | 24 => ⟨S2x2048x16, .i32⟩
  | 25 => ⟨S2x2048x16, .i32⟩
  | 26 => ⟨S2x2048x16, .i32⟩
  | 27 => ⟨S2x2048x16x1, .i32⟩
  | 28 => ⟨S1, .i32⟩
  | 29 => ⟨S_, .i32⟩
  | 30 => ⟨S2x2048x16x1, .i32⟩
  | 31 => ⟨S2x2048x16x1, .i1⟩
  | 32 => ⟨S1x1x1x1, .i32⟩
  | 33 => ⟨S2x2048x16x1, .i32⟩
  | 34 => ⟨S2x2048x16x1, .i1⟩
  | 35 => ⟨S2x2048x16x1, .i1⟩
  | 36 => ⟨S_, .i1⟩
  | 37 => ⟨S2x2048x16, .i1⟩
  | 38 => ⟨S2x2048x16x32, .f32⟩
  | 39 => ⟨S2x2048x16x32, .i1⟩
  | 40 => ⟨S_, .f32⟩
  | 41 => ⟨S2x2048x16x32, .f32⟩
  | 42 => ⟨S2x2048x16x32, .f32⟩
  | 43 => ⟨S_, .i32⟩
  | 44 => ⟨S2x2048x16, .i32⟩
  | 45 => ⟨S2x2048x16, .i1⟩
  | 46 => ⟨S_, .i32⟩
  | 47 => ⟨S2x2048x16, .i32⟩
  | 48 => ⟨S2x2048x16, .i32⟩
  | 49 => ⟨S2x2048x16, .i32⟩
  | 50 => ⟨S2x2048x16x1, .i32⟩
  | 51 => ⟨S1, .i32⟩
  | 52 => ⟨S_, .i32⟩
  | 53 => ⟨S2x2048x16x1, .i32⟩
  | 54 => ⟨S2x2048x16x1, .i1⟩
  | 55 => ⟨S1x1x1x1, .i32⟩
  | 56 => ⟨S2x2048x16x1, .i32⟩
  | 57 => ⟨S2x2048x16x1, .i1⟩
  | 58 => ⟨S2x2048x16x1, .i1⟩
  | 59 => ⟨S_, .i1⟩
  | 60 => ⟨S2x2048x16, .i1⟩
  | 61 => ⟨S2x2048x16x32, .f32⟩
  | 62 => ⟨S2x2048x16x32, .i1⟩
  | 63 => ⟨S_, .f32⟩
  | 64 => ⟨S2x2048x16x32, .f32⟩
  | 65 => ⟨S2x2048x16x32, .f32⟩
  | 66 => ⟨S_, .f32⟩
  | 67 => ⟨S2x2048x16x1, .f32⟩
  | 68 => ⟨S2x2048x16x1, .f32⟩
  | 69 => ⟨S2x2048x16x32, .f32⟩
  | 70 => ⟨S2x2048x16x32, .f32⟩
  | 71 => ⟨S2x2048x16x32, .f32⟩
  | 72 => ⟨S2x2048x16x32, .f32⟩
  | 73 => ⟨S2x2048x16x32, .f32⟩
  | 74 => ⟨S_, .f32⟩
  | 75 => ⟨S2x2048x16x1, .f32⟩
  | 76 => ⟨S2x2048x16x1, .f32⟩
  | 77 => ⟨S2x2048x16x32, .f32⟩
  | 78 => ⟨S2x2048x16x32, .f32⟩
  | 79 => ⟨S2x2048x16x32, .f32⟩
  | 80 => ⟨S2x2048x16x32, .f32⟩
  | 81 => ⟨S2x2048x16x32, .f32⟩
  | 82 => ⟨S2x2048x16x32, .f32⟩
  | 83 => ⟨S2x2048x16x32, .f32⟩
  | 84 => ⟨S2x2048x16x32, .f32⟩
  | 85 => ⟨S2x2048x16x32, .f32⟩
  | 86 => ⟨S2x2048x16x32, .f32⟩
  | 87 => ⟨S2x2048x16x32, .f32⟩
  | 88 => ⟨S2x2048x16x32, .f32⟩
  | 89 => ⟨S2x2048x16x32, .f32⟩
  | 90 => ⟨S2x2048x16x32x1, .f32⟩
  | 91 => ⟨S2x2048x16x32x1, .f32⟩
  | 92 => ⟨S2x2048x16x32x2, .f32⟩
  | 93 => ⟨S2x2048x16x64, .f32⟩
  | _ => ⟨S2x2048x16x64, .f32⟩

abbrev hbmTy (i : Nat) : BufTy := match i / 128 with
  | 0 => hbmTy0_0 i
  | 1 => hbmTy0_1 i
  | _ => ⟨S2x2048x16x64, .f32⟩

abbrev bufTy : (tb : Table) → Fin (tcTables nBuf tb) → BufTy
  | .hbm, ⟨i, _⟩ => hbmTy i
  | _, _ => ⟨S2x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call1_v0 : Ref sig .tc := ⟨.hbm, 45, rfl⟩
abbrev main_call1_cst : Ref sig .tc := ⟨.hbm, 46, rfl⟩
abbrev main_call1_v1 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_call2_v0 : Ref sig .tc := ⟨.hbm, 54, rfl⟩
abbrev main_call2_v1 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_call3_cst : Ref sig .tc := ⟨.hbm, 61, rfl⟩
abbrev main_call3_v0 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_c : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_c_11 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_call5_c : Ref sig .tc := ⟨.hbm, 102, rfl⟩
abbrev main_call5_v0 : Ref sig .tc := ⟨.hbm, 103, rfl⟩
abbrev main_call5_v1 : Ref sig .tc := ⟨.hbm, 104, rfl⟩
abbrev main_call5_c_0 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_call5_v5 : Ref sig .tc := ⟨.hbm, 109, rfl⟩
abbrev main_call5_c_1 : Ref sig .tc := ⟨.hbm, 110, rfl⟩
abbrev main_call5_c_2 : Ref sig .tc := ⟨.hbm, 111, rfl⟩
abbrev main_call5_v6 : Ref sig .tc := ⟨.hbm, 112, rfl⟩
abbrev main_call5_v7 : Ref sig .tc := ⟨.hbm, 113, rfl⟩
abbrev main_call5_v8 : Ref sig .tc := ⟨.hbm, 114, rfl⟩
abbrev main_call5_v9 : Ref sig .tc := ⟨.hbm, 115, rfl⟩
abbrev main_call5_v10 : Ref sig .tc := ⟨.hbm, 116, rfl⟩
abbrev main_call5_v11 : Ref sig .tc := ⟨.hbm, 117, rfl⟩
abbrev main_call5_c_3 : Ref sig .tc := ⟨.hbm, 118, rfl⟩
abbrev main_call5_v12 : Ref sig .tc := ⟨.hbm, 119, rfl⟩
abbrev main_call5_v13 : Ref sig .tc := ⟨.hbm, 120, rfl⟩
abbrev main_call5_v14 : Ref sig .tc := ⟨.hbm, 121, rfl⟩
abbrev main_call5_cst : Ref sig .tc := ⟨.hbm, 122, rfl⟩
abbrev main_call5_v15 : Ref sig .tc := ⟨.hbm, 123, rfl⟩
abbrev main_v69 : Ref sig .tc := ⟨.hbm, 124, rfl⟩
abbrev main_call6_c : Ref sig .tc := ⟨.hbm, 125, rfl⟩
abbrev main_call6_v0 : Ref sig .tc := ⟨.hbm, 126, rfl⟩
abbrev main_call6_v1 : Ref sig .tc := ⟨.hbm, 127, rfl⟩
abbrev main_call6_c_0 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_v5 : Ref sig .tc := ⟨.hbm, 132, rfl⟩
abbrev main_call6_c_1 : Ref sig .tc := ⟨.hbm, 133, rfl⟩
abbrev main_call6_c_2 : Ref sig .tc := ⟨.hbm, 134, rfl⟩
abbrev main_call6_v6 : Ref sig .tc := ⟨.hbm, 135, rfl⟩
abbrev main_call6_v7 : Ref sig .tc := ⟨.hbm, 136, rfl⟩
abbrev main_call6_v8 : Ref sig .tc := ⟨.hbm, 137, rfl⟩
abbrev main_call6_v9 : Ref sig .tc := ⟨.hbm, 138, rfl⟩
abbrev main_call6_v10 : Ref sig .tc := ⟨.hbm, 139, rfl⟩
abbrev main_call6_v11 : Ref sig .tc := ⟨.hbm, 140, rfl⟩
abbrev main_call6_c_3 : Ref sig .tc := ⟨.hbm, 141, rfl⟩
abbrev main_call6_v12 : Ref sig .tc := ⟨.hbm, 142, rfl⟩
abbrev main_call6_v13 : Ref sig .tc := ⟨.hbm, 143, rfl⟩
abbrev main_call6_v14 : Ref sig .tc := ⟨.hbm, 144, rfl⟩
abbrev main_call6_cst : Ref sig .tc := ⟨.hbm, 145, rfl⟩
abbrev main_call6_v15 : Ref sig .tc := ⟨.hbm, 146, rfl⟩
abbrev main_v70 : Ref sig .tc := ⟨.hbm, 147, rfl⟩
abbrev main_call7_c : Ref sig .tc := ⟨.hbm, 148, rfl⟩
abbrev main_call7_v0 : Ref sig .tc := ⟨.hbm, 149, rfl⟩
abbrev main_call7_v1 : Ref sig .tc := ⟨.hbm, 150, rfl⟩
abbrev main_call7_c_0 : Ref sig .tc := ⟨.hbm, 151, rfl⟩
abbrev main_call7_v2 : Ref sig .tc := ⟨.hbm, 152, rfl⟩
abbrev main_call7_v3 : Ref sig .tc := ⟨.hbm, 153, rfl⟩
abbrev main_call7_v4 : Ref sig .tc := ⟨.hbm, 154, rfl⟩
abbrev main_call7_v5 : Ref sig .tc := ⟨.hbm, 155, rfl⟩
abbrev main_call7_c_1 : Ref sig .tc := ⟨.hbm, 156, rfl⟩
abbrev main_call7_c_2 : Ref sig .tc := ⟨.hbm, 157, rfl⟩
abbrev main_call7_v6 : Ref sig .tc := ⟨.hbm, 158, rfl⟩
abbrev main_call7_v7 : Ref sig .tc := ⟨.hbm, 159, rfl⟩
abbrev main_call7_v8 : Ref sig .tc := ⟨.hbm, 160, rfl⟩
abbrev main_call7_v9 : Ref sig .tc := ⟨.hbm, 161, rfl⟩
abbrev main_call7_v10 : Ref sig .tc := ⟨.hbm, 162, rfl⟩
abbrev main_call7_v11 : Ref sig .tc := ⟨.hbm, 163, rfl⟩
abbrev main_call7_c_3 : Ref sig .tc := ⟨.hbm, 164, rfl⟩
abbrev main_call7_v12 : Ref sig .tc := ⟨.hbm, 165, rfl⟩
abbrev main_call7_v13 : Ref sig .tc := ⟨.hbm, 166, rfl⟩
abbrev main_call7_v14 : Ref sig .tc := ⟨.hbm, 167, rfl⟩
abbrev main_call7_cst : Ref sig .tc := ⟨.hbm, 168, rfl⟩
abbrev main_call7_v15 : Ref sig .tc := ⟨.hbm, 169, rfl⟩
abbrev main_v71 : Ref sig .tc := ⟨.hbm, 170, rfl⟩
abbrev main_call8_c : Ref sig .tc := ⟨.hbm, 171, rfl⟩
abbrev main_call8_v0 : Ref sig .tc := ⟨.hbm, 172, rfl⟩
abbrev main_call8_v1 : Ref sig .tc := ⟨.hbm, 173, rfl⟩
abbrev main_call8_c_0 : Ref sig .tc := ⟨.hbm, 174, rfl⟩
abbrev main_call8_v2 : Ref sig .tc := ⟨.hbm, 175, rfl⟩
abbrev main_call8_v3 : Ref sig .tc := ⟨.hbm, 176, rfl⟩
abbrev main_call8_v4 : Ref sig .tc := ⟨.hbm, 177, rfl⟩
abbrev main_call8_v5 : Ref sig .tc := ⟨.hbm, 178, rfl⟩
abbrev main_call8_c_1 : Ref sig .tc := ⟨.hbm, 179, rfl⟩
abbrev main_call8_c_2 : Ref sig .tc := ⟨.hbm, 180, rfl⟩
abbrev main_call8_v6 : Ref sig .tc := ⟨.hbm, 181, rfl⟩
abbrev main_call8_v7 : Ref sig .tc := ⟨.hbm, 182, rfl⟩
abbrev main_call8_v8 : Ref sig .tc := ⟨.hbm, 183, rfl⟩
abbrev main_call8_v9 : Ref sig .tc := ⟨.hbm, 184, rfl⟩
abbrev main_call8_v10 : Ref sig .tc := ⟨.hbm, 185, rfl⟩
abbrev main_call8_v11 : Ref sig .tc := ⟨.hbm, 186, rfl⟩
abbrev main_call8_c_3 : Ref sig .tc := ⟨.hbm, 187, rfl⟩
abbrev main_call8_v12 : Ref sig .tc := ⟨.hbm, 188, rfl⟩
abbrev main_call8_v13 : Ref sig .tc := ⟨.hbm, 189, rfl⟩
abbrev main_call8_v14 : Ref sig .tc := ⟨.hbm, 190, rfl⟩
abbrev main_call8_cst : Ref sig .tc := ⟨.hbm, 191, rfl⟩
abbrev main_call8_v15 : Ref sig .tc := ⟨.hbm, 192, rfl⟩
abbrev main_v72 : Ref sig .tc := ⟨.hbm, 193, rfl⟩
abbrev main_cst_12 : Ref sig .tc := ⟨.hbm, 194, rfl⟩
abbrev main_v73 : Ref sig .tc := ⟨.hbm, 195, rfl⟩
abbrev main_v74 : Ref sig .tc := ⟨.hbm, 196, rfl⟩
abbrev main_v75 : Ref sig .tc := ⟨.hbm, 197, rfl⟩
abbrev main_v76 : Ref sig .tc := ⟨.hbm, 198, rfl⟩
abbrev main_v77 : Ref sig .tc := ⟨.hbm, 199, rfl⟩
abbrev main_v78 : Ref sig .tc := ⟨.hbm, 200, rfl⟩
abbrev main_v79 : Ref sig .tc := ⟨.hbm, 201, rfl⟩
abbrev main_cst_13 : Ref sig .tc := ⟨.hbm, 202, rfl⟩
abbrev main_v80 : Ref sig .tc := ⟨.hbm, 203, rfl⟩
abbrev main_v81 : Ref sig .tc := ⟨.hbm, 204, rfl⟩
abbrev main_v82 : Ref sig .tc := ⟨.hbm, 205, rfl⟩
abbrev main_v83 : Ref sig .tc := ⟨.hbm, 206, rfl⟩
abbrev main_v84 : Ref sig .tc := ⟨.hbm, 207, rfl⟩
abbrev main_v85 : Ref sig .tc := ⟨.hbm, 208, rfl⟩
abbrev main_v86 : Ref sig .tc := ⟨.hbm, 209, rfl⟩
abbrev main_v87 : Ref sig .tc := ⟨.hbm, 210, rfl⟩
abbrev main_v88 : Ref sig .tc := ⟨.hbm, 211, rfl⟩
abbrev main_v89 : Ref sig .tc := ⟨.hbm, 212, rfl⟩
abbrev main_v90 : Ref sig .tc := ⟨.hbm, 213, rfl⟩
abbrev main_v91 : Ref sig .tc := ⟨.hbm, 214, rfl⟩
abbrev main_v92 : Ref sig .tc := ⟨.hbm, 215, rfl⟩
abbrev main_v93 : Ref sig .tc := ⟨.hbm, 216, rfl⟩
abbrev main_v94 : Ref sig .tc := ⟨.hbm, 217, rfl⟩
abbrev main_v95 : Ref sig .tc := ⟨.hbm, 218, rfl⟩
abbrev main_v96 : Ref sig .tc := ⟨.hbm, 219, rfl⟩
abbrev main_v97 : Ref sig .tc := ⟨.hbm, 220, rfl⟩
abbrev main_v98 : Ref sig .tc := ⟨.hbm, 221, rfl⟩

abbrev nD : Nat := 1
abbrev τ : Topo := Topo.v7x

variable {F : FTy → Type} [FloatOps F]
-- ==== Proof.Reals.lean ====
/- The real numbers behind the extended reals: how sums, maxima, roots and sines of finite values are finite values. -/
module

public import Idealize.ShloMosaic.PureOps.Ideal
public import Mathlib.Data.EReal.Basic
public import Mathlib.Analysis.SpecialFunctions.Trigonometric.Basic

@[expose] public section

noncomputable section

namespace Rope

open Idealize.ShloMosaic

/-- A finite sum of real numbers, taken as extended reals, is the sum of the real numbers. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two real numbers, taken as extended reals, is the larger real number. -/
theorem coe_max (x y : ℝ) : max (x : EReal) (y : EReal) = ((max x y : ℝ) : EReal) :=
  (EReal.coe_strictMono.monotone.map_max).symm

/-- The smaller of two real numbers, taken as extended reals, is the smaller real number. -/
theorem coe_min (x y : ℝ) : min (x : EReal) (y : EReal) = ((min x y : ℝ) : EReal) :=
  (EReal.coe_strictMono.monotone.map_min).symm

/-- The larger of a real number and zero. -/
theorem coe_max_zero (x : ℝ) : max (x : EReal) 0 = ((max x 0 : ℝ) : EReal) := by
  rw [← EReal.coe_zero]; exact coe_max x 0

/-- One less a real number. -/
theorem coe_one_sub (x : ℝ) : 1 - (x : EReal) = ((1 - x : ℝ) : EReal) := by
  rw [← EReal.coe_one, EReal.coe_sub]

/-- One and a real number. -/
theorem coe_one_add (x : ℝ) : 1 + (x : EReal) = ((1 + x : ℝ) : EReal) := by
  rw [← EReal.coe_one, EReal.coe_add]

/-- The difference of two real numbers, taken as extended reals, is their real difference. -/
theorem coe_sub (x y : ℝ) : (x : EReal) - (y : EReal) = ((x - y : ℝ) : EReal) := (EReal.coe_sub x y).symm

/-- The sum of two real numbers, taken as extended reals, is their real sum. -/
theorem coe_add (x y : ℝ) : (x : EReal) + (y : EReal) = ((x + y : ℝ) : EReal) := (EReal.coe_add x y).symm

/-- The product of two real numbers, taken as extended reals, is their real product. -/
theorem coe_mul (x y : ℝ) : (x : EReal) * (y : EReal) = ((x * y : ℝ) : EReal) := (EReal.coe_mul x y).symm

/-- The quotient by a real number that is not zero is the real quotient. -/
theorem coe_div (x y : ℝ) (hy : y ≠ 0) : Ideal.div (x : EReal) (y : EReal) = ((x / y : ℝ) : EReal) := by
  rw [Ideal.div_coe hy, coe_mul, mul_one_div]

/-- The root of a real number that is not negative is its real root. -/
theorem coe_sqrt (x : ℝ) (hx : 0 ≤ x) : Ideal.sqrt (x : EReal) = ((√x : ℝ) : EReal) := by
  rw [Ideal.sqrt_coe, if_neg (not_lt.mpr hx)]

/-- The reciprocal root of a positive real number is the reciprocal of its real root. -/
theorem coe_rsqrt (x : ℝ) (hx : 0 < x) : Ideal.rsqrt (x : EReal) = (((√x)⁻¹ : ℝ) : EReal) := by
  rw [Ideal.rsqrt_coe, if_neg (not_lt.mpr hx.le), if_neg hx.ne']

/-- An extended real whose absolute value is below infinity is a real number. -/
theorem coe_toReal_of_abs {x : EReal} (h : max x (-x) < ⊤) : ((x.toReal : ℝ) : EReal) = x := by
  apply EReal.coe_toReal
  · rintro rfl; simp at h
  · rintro rfl; simp at h

end Rope

end
-- ==== Proof.Score.lean ====
/- The mathematics of the positions: the distances between the contents of neighbouring positions, the score they give, how
   far back the score moves a position, and that the kernel's roots are the reference's distances. Everything here is about
   real numbers. -/
module

public import proofs.«01_k».proof.Proof.Reals

@[expose] public section

noncomputable section

namespace Rope

/-- The real number that the reference's single-precision literal 0.1 is. -/
def tenth : ℝ := 13421773 / 134217728

/-- The real number that the reference's single-precision literal 1e-6 is. -/
def clip : ℝ := 8796093 / 8796093022208

/-- The real number that the kernel's single-precision literal 1e-30 is. -/
def tiny : ℝ := 10633824 * 2⁻¹ ^ 123

/-- The scale is positive. -/
theorem tenth_pos : 0 < tenth := by unfold tenth; norm_num
/-- The clip of the distance is positive. -/
theorem clip_pos : 0 < clip := by unfold clip; norm_num
/-- The least square that the kernel takes a root of is positive. -/
theorem tiny_pos : 0 < tiny := by unfold tiny; positivity

variable (c : ℕ → Fin 64 → ℝ)

/-- The content of position `s`: its row of `X` times the content matrix. -/
def content (X : ℕ → ℕ → ℝ) (W : Fin 64 → Fin 64 → ℝ) (s : ℕ) (d : Fin 64) : ℝ := ∑ k : Fin 64, X s k * W d k

/-- The squared distance between the contents of positions `i` and `i + 1`. -/
def gap1 (i : ℕ) : ℝ := ∑ d, (c (i + 1) d - c i d) ^ 2

/-- The squared distance between the contents of positions `i` and `i + 2`. -/
def gap2 (i : ℕ) : ℝ := ∑ d, (c (i + 2) d - c i d) ^ 2

/-- The product of the two steps from position `i` to `i + 1` and from there to `i + 2`. -/
def cross (i : ℕ) : ℝ := ∑ d, (c (i + 2) d - c (i + 1) d) * (c (i + 1) d - c i d)

/-- The square of a one-step distance is not negative. -/
theorem gap1_nonneg (i : ℕ) : 0 ≤ gap1 c i := Finset.sum_nonneg fun _ _ => sq_nonneg _
/-- The square of a two-step distance is not negative. -/
theorem gap2_nonneg (i : ℕ) : 0 ≤ gap2 c i := Finset.sum_nonneg fun _ _ => sq_nonneg _

/-- The two steps of one position add up to the one step of two. -/
theorem gap2_eq (i : ℕ) : gap1 c (i + 1) + gap1 c i + 2 * cross c i = gap2 c i := by
  unfold gap1 gap2 cross
  rw [Finset.mul_sum, ← Finset.sum_add_distrib, ← Finset.sum_add_distrib]
  exact Finset.sum_congr rfl fun d _ => by ring

/-- The score of position `i + 1`: how near it lies to the straight way from `i` to `i + 2`. -/
def score (i : ℕ) : ℝ := max (1 - (√(gap1 c i) + √(gap1 c (i + 1)) - √(gap2 c i)) / max clip √(gap2 c i)) 0

/-- A score is not negative. -/
theorem score_nonneg (i : ℕ) : 0 ≤ score c i := le_max_right _ _

/-- A score is at most two. -/
theorem score_le (i : ℕ) : score c i ≤ 2 := by
  unfold score
  refine max_le ?_ (by norm_num)
  have hm : 0 < max clip √(gap2 c i) := lt_of_lt_of_le clip_pos (le_max_left _ _)
  have h : -1 ≤ (√(gap1 c i) + √(gap1 c (i + 1)) - √(gap2 c i)) / max clip √(gap2 c i) := by
    rw [le_div_iff₀ hm]
    have h1 := Real.sqrt_nonneg (gap1 c i)
    have h2 := Real.sqrt_nonneg (gap1 c (i + 1))
    have h3 : √(gap2 c i) ≤ max clip √(gap2 c i) := le_max_right _ _
    linarith
  linarith

/-- A squared distance times its reciprocal root, the root's argument bounded below, is the distance. -/
theorem mul_inv_root (q e : ℝ) (he : 0 < e) (h : q = 0 ∨ e ≤ q) : q * (√(max q e))⁻¹ = √q := by
  rcases h with rfl | h
  · simp
  · rw [max_eq_left h]
    have hq : 0 < q := he.trans_le h
    have := Real.sqrt_pos.mpr hq
    rw [← div_eq_mul_inv, div_eq_iff this.ne']
    exact (Real.mul_self_sqrt hq.le).symm

/-- The root of a bounded square is the bounded root. -/
theorem root_max_sq (q e : ℝ) (he : 0 ≤ e) : √(max q (e * e)) = max e √q := by
  rw [max_comm, Real.sqrt_monotone.map_max, Real.sqrt_mul_self he]

/-- The kernel's score, of roots by reciprocal roots, is the score. -/
theorem score_eq (i : ℕ) (h0 : gap1 c i = 0 ∨ tiny ≤ gap1 c i) (h1 : gap1 c (i + 1) = 0 ∨ tiny ≤ gap1 c (i + 1))
    (h2 : √(gap2 c i) = 0 ∨ clip ≤ √(gap2 c i)) :
    max (1 - ((gap1 c i * (√(max (gap1 c i) tiny))⁻¹ + gap1 c (i + 1) * (√(max (gap1 c (i + 1)) tiny))⁻¹)
      - gap2 c i * (√(max (gap2 c i) (clip * clip)))⁻¹) * (√(max (gap2 c i) (clip * clip)))⁻¹) 0 = score c i := by
  have hg := gap2_nonneg c i
  have h2' : gap2 c i = 0 ∨ clip * clip ≤ gap2 c i := by
    rcases h2 with h | h
    · exact .inl ((Real.sqrt_eq_zero hg).mp h)
    · refine .inr ?_
      rw [← Real.mul_self_sqrt hg]
      exact mul_self_le_mul_self clip_pos.le h
  rw [mul_inv_root _ _ tiny_pos h0, mul_inv_root _ _ tiny_pos h1,
    mul_inv_root _ _ (mul_pos clip_pos clip_pos) h2', root_max_sq _ _ clip_pos.le, ← div_eq_mul_inv]
  rfl

/-! ## How far a position is moved -/

variable (g : ℝ)

/-- The betweenness of position `s`: its score over the number of scored positions; the two ends have none. -/
def betw (s : ℕ) : ℝ := if s = 0 ∨ 2047 ≤ s then 0 else score c (s - 1) / 2046

/-- By how much position `s` is moved. -/
def adjust (s : ℕ) : ℝ := g * (betw c s - 1 / 2) * tenth

/-- A share of the scores is not negative. -/
theorem betw_nonneg (s : ℕ) : 0 ≤ betw c s := by
  unfold betw
  split
  · exact le_rfl
  · exact div_nonneg (score_nonneg _ _) (by norm_num)

/-- A share of the scores is at most a half. -/
theorem betw_le (s : ℕ) : betw c s ≤ 1 / 2 := by
  unfold betw
  split
  · norm_num
  · rw [div_le_iff₀ (by norm_num)]
    linarith [score_le c (s - 1)]

/-- A gate that is not negative moves no position forward. -/
theorem adjust_nonpos (hg : 0 ≤ g) (s : ℕ) : adjust c g s ≤ 0 := by
  unfold adjust
  have h1 := betw_le c s
  exact mul_nonpos_of_nonpos_of_nonneg (mul_nonpos_of_nonneg_of_nonpos hg (by linarith)) tenth_pos.le

/-- A gate of at most twenty, as the reference scales it, moves no position back by more than one. -/
theorem adjust_ge (hg : 0 ≤ g) (hg' : g * tenth ≤ 2) (s : ℕ) : -1 ≤ adjust c g s := by
  unfold adjust
  have h1 := betw_nonneg c s
  have h2 := mul_nonneg (mul_nonneg hg tenth_pos.le) h1
  nlinarith

/-- How far position `s` lies past the position before it, once moved; position 0 stays. -/
def frac (s : ℕ) : ℝ := if s = 0 then 0 else 1 + adjust c g s

/-- Where position `s` lies once it is moved and clipped. -/
def place (s : ℕ) : ℝ := min 2047 (max 0 ((s : ℝ) + adjust c g s))

/-- The first position stays where it is. -/
theorem place_zero (hg : 0 ≤ g) : place c g 0 = 0 := by
  unfold place
  have := adjust_nonpos c g hg 0
  rw [Nat.cast_zero, zero_add, max_eq_left this]; norm_num

/-- A later position moves back by at most one, and not out of the table. -/
theorem place_pos (hg : 0 ≤ g) (hg' : g * tenth ≤ 2) (s : ℕ) (h0 : s ≠ 0) (hs : s < 2048) :
    place c g s = (s : ℝ) + adjust c g s := by
  unfold place
  have h1 := adjust_nonpos c g hg s
  have h2 := adjust_ge c g hg hg' s
  have h3 : (1 : ℝ) ≤ s := by exact_mod_cast Nat.one_le_iff_ne_zero.mpr h0
  have h4 : (s : ℝ) ≤ 2047 := by exact_mod_cast Nat.le_of_lt_succ hs
  rw [max_eq_right (by linarith), min_eq_right (by linarith)]

/-- A moved position is its lower neighbour and the fraction, whatever function of the position is interpolated:
    the neighbours are the floor and the ceiling, and where the two are one, the fraction is 0 or 1. -/
theorem interpolate (hg : 0 ≤ g) (hg' : g * tenth ≤ 2) (s : ℕ) (hs : s < 2048) (u : ℤ → ℝ) :
    (1 - (place c g s - (⌊place c g s⌋ : ℝ))) * u ⌊place c g s⌋ + (place c g s - (⌊place c g s⌋ : ℝ)) * u ⌈place c g s⌉
      = (1 - frac c g s) * u ((s - 1 : ℕ) : ℤ) + frac c g s * u (((s - 1 : ℕ) : ℤ) + 1) := by
  by_cases h0 : s = 0
  · subst h0
    simp [place_zero c g hg, frac]
  · have hp := place_pos c g hg hg' s h0 hs
    have h1 := adjust_nonpos c g hg s
    have h2 := adjust_ge c g hg hg' s
    have hs1 : ((s - 1 : ℕ) : ℤ) = (s : ℤ) - 1 := by omega
    simp only [frac, if_neg h0]
    rw [hs1, hp]
    set a := adjust c g s
    rcases eq_or_lt_of_le h2 with h | h
    · have hf : ⌊(s : ℝ) + a⌋ = (s : ℤ) - 1 := by
        rw [Int.floor_eq_iff]; push_cast; constructor <;> linarith
      have hc : ⌈(s : ℝ) + a⌉ = (s : ℤ) - 1 := by
        rw [Int.ceil_eq_iff]; push_cast; constructor <;> linarith
      rw [hf, hc]; push_cast; rw [← h]; ring
    · rcases eq_or_lt_of_le h1 with h' | h'
      · have hf : ⌊(s : ℝ) + a⌋ = (s : ℤ) := by
          rw [Int.floor_eq_iff]; push_cast; constructor <;> linarith
        have hc : ⌈(s : ℝ) + a⌉ = (s : ℤ) := by
          rw [Int.ceil_eq_iff]; push_cast; constructor <;> linarith
        rw [hf, hc]; push_cast; rw [h']; ring_nf
      · have hf : ⌊(s : ℝ) + a⌋ = (s : ℤ) - 1 := by
          rw [Int.floor_eq_iff]; push_cast; constructor <;> linarith
        have hc : ⌈(s : ℝ) + a⌉ = (s : ℤ) := by
          rw [Int.ceil_eq_iff]; push_cast; constructor <;> linarith
        rw [hf, hc]; push_cast; ring_nf

/-- The two neighbours of a moved position are positions of the table. -/
theorem place_bounds (s : ℕ) : 0 ≤ place c g s ∧ place c g s ≤ 2047 :=
  ⟨le_min (by norm_num) (le_max_left _ _), min_le_left _ _⟩

/-! ## The rotation -/

/-- The frequency of the `j`-th pair of lanes. -/
def theta (j : ℕ) : ℝ := 1 / (10000 : ℝ) ^ ((2 * (j : ℝ)) / 64)

/-- The cosine of lane pair `j` at position `s`, between the two neighbouring positions. -/
def cosAt (s j : ℕ) : ℝ :=
  (1 - frac c g s) * Real.cos (((s - 1 : ℕ) : ℝ) * theta j) + frac c g s * Real.cos ((((s - 1 : ℕ) : ℝ) + 1) * theta j)

/-- The sine of lane pair `j` at position `s`, between the two neighbouring positions. -/
def sinAt (s j : ℕ) : ℝ :=
  (1 - frac c g s) * Real.sin (((s - 1 : ℕ) : ℝ) * theta j) + frac c g s * Real.sin ((((s - 1 : ℕ) : ℝ) + 1) * theta j)

/-- The kernel's cosine, by the angle's addition, is the interpolated cosine. -/
theorem cos_step (L t f σ : ℝ) (hσ : σ * σ = 1) :
    Real.cos (L * t) * (1 + f * (Real.cos t - 1)) - Real.sin (L * t) * σ * (f * (Real.sin t * σ))
      = (1 - f) * Real.cos (L * t) + f * Real.cos ((L + 1) * t) := by
  rw [add_mul, one_mul, Real.cos_add]
  linear_combination (-(Real.sin (L * t) * f * Real.sin t)) * hσ

/-- The kernel's signed sine, by the angle's addition, is the interpolated sine with that sign. -/
theorem sin_step (L t f σ : ℝ) :
    Real.sin (L * t) * σ * (1 + f * (Real.cos t - 1)) + Real.cos (L * t) * (f * (Real.sin t * σ))
      = σ * ((1 - f) * Real.sin (L * t) + f * Real.sin ((L + 1) * t)) := by
  rw [add_mul, one_mul, Real.sin_add]
  ring

/-- One row of one head rotated: `x` the row's lanes. Even lanes lose the next lane's sine part, odd lanes gain the
    previous lane's. -/
def rotated (x : ℕ → ℝ) (s d : ℕ) : ℝ :=
  if d % 2 = 0 then x d * cosAt c g s (d / 2) - x (d + 1) * sinAt c g s (d / 2)
  else x d * cosAt c g s (d / 2) + x (d - 1) * sinAt c g s (d / 2)

end Rope

end
-- ==== Proof.Consts.lean ====
/- What the single-precision words of the two programs are as real numbers. -/
module

public import proofs.«01_k».proof.Proof.Score

@[expose] public section

noncomputable section

namespace Rope

open Idealize.ShloMosaic

/-- The word of 0.1. -/
theorem word_tenth : Ideal.ofBits .f32 0x3DCCCCCD#32 = ((tenth : ℝ) : EReal) := by
  unfold tenth; simp [Ideal.ofBits, Ideal.ieee, -EReal.coe_mul]; norm_num

/-- The word of 0.05 is half of the word of 0.1. -/
theorem word_twentieth : Ideal.ofBits .f32 0x3D4CCCCD#32 = ((tenth / 2 : ℝ) : EReal) := by
  unfold tenth; simp [Ideal.ofBits, Ideal.ieee, -EReal.coe_mul]; norm_num

/-- The word of 1e-6. -/
theorem word_clip : Ideal.ofBits .f32 0x358637BD#32 = ((clip : ℝ) : EReal) := by
  unfold clip; simp [Ideal.ofBits, Ideal.ieee, -EReal.coe_mul]; norm_num

/-- The word of 1e-30. -/
theorem word_tiny : Ideal.ofBits .f32 0x0DA24260#32 = ((tiny : ℝ) : EReal) := by
  unfold tiny; simp [Ideal.ofBits, Ideal.ieee, -EReal.coe_mul]

/-- The word of 2. -/
theorem word_two : Ideal.ofBits .f32 0x40000000#32 = ((2 : ℝ) : EReal) := by
  simp [Ideal.ofBits, Ideal.ieee, -EReal.coe_mul]; norm_num

/-- The word of one half. -/
theorem word_half : Ideal.ofBits .f32 0x3F000000#32 = ((1 / 2 : ℝ) : EReal) := by
  simp [Ideal.ofBits, Ideal.ieee, -EReal.coe_mul]; norm_num

/-- The word of 64. -/
theorem word_sixtyfour : Ideal.ofBits .f32 0x42800000#32 = ((64 : ℝ) : EReal) := by
  simp [Ideal.ofBits, Ideal.ieee, -EReal.coe_mul]; norm_num

/-- The word of 10000. -/
theorem word_base : Ideal.ofBits .f32 0x461C4000#32 = ((10000 : ℝ) : EReal) := by
  simp [Ideal.ofBits, Ideal.ieee, -EReal.coe_mul]; norm_num

/-- The word of 2046. -/
theorem word_count : Ideal.ofBits .f32 0x44FFC000#32 = ((2046 : ℝ) : EReal) := by
  simp [Ideal.ofBits, Ideal.ieee, -EReal.coe_mul]; norm_num

/-- The word of 0.9765625. -/
theorem word_centre : Ideal.ofBits .f32 0x3F7A0000#32 = ((125 / 128 : ℝ) : EReal) := by
  simp [Ideal.ofBits, Ideal.ieee, -EReal.coe_mul]; norm_num

/-- The word of -0.9765625. -/
theorem word_neg_centre : Ideal.ofBits .f32 0xBF7A0000#32 = ((-(125 / 128) : ℝ) : EReal) := by
  simp [Ideal.ofBits, Ideal.ieee, -EReal.coe_mul, -EReal.coe_neg]; norm_num

/-- The word of 1 - 0.9765625. -/
theorem word_rest : Ideal.ofBits .f32 0x3CC00000#32 = ((3 / 128 : ℝ) : EReal) := by
  simp [Ideal.ofBits, Ideal.ieee, -EReal.coe_mul]; norm_num

/-- The word of minus one. -/
theorem word_neg_one : Ideal.ofBits .f32 0xBF800000#32 = ((-1 : ℝ) : EReal) := by
  simp [Ideal.ofBits, Ideal.ieee, -EReal.coe_mul, -EReal.coe_neg]; norm_num

/-- The word of infinity. -/
theorem word_inf : Ideal.ofBits .f32 0x7F800000#32 = ⊤ := by
  simp [Ideal.ofBits, Ideal.ieee]

end Rope

end
-- ==== Proof.Lanes.lean ====
/- The kernel's 512 lanes are eight heads of 64 lanes each. -/
module

public import proofs.«01_k».proof.Proof.Consts
public import Idealize.ShloMosaic.Lib.Pointwise

@[expose] public section

noncomputable section

namespace Rope

open Idealize.ShloMosaic

/-- Lane `d` of head `h` among the 512 lanes. -/
def lane (h : Fin 8) (d : Fin 64) : Fin 512 := ⟨h.val * 64 + d.val, by omega⟩

/-- The number of a lane. -/
@[simp] theorem lane_val (h : Fin 8) (d : Fin 64) : (lane h d).val = h.val * 64 + d.val := rfl

/-- The heads and their lanes, and the 512 lanes, are the same. -/
def lanes : Fin 8 × Fin 64 ≃ Fin 512 where
  toFun p := lane p.1 p.2
  invFun l := (⟨l.val / 64, by omega⟩, ⟨l.val % 64, by omega⟩)
  left_inv := by
    rintro ⟨h, d⟩
    refine Prod.ext (Fin.ext ?_) (Fin.ext ?_) <;> simp <;> omega
  right_inv l := Fin.ext (by simp; omega)

/-- Every lane is a lane of a head. -/
theorem lane_surj (l : Fin 512) : ∃ h d, l = lane h d := ⟨_, _, (lanes.apply_symm_apply l).symm⟩

/-- A sum over the 512 lanes is the sum over the heads of the sums over their lanes. -/
theorem sum_lanes {M : Type} [AddCommMonoid M] (f : Fin 512 → M) : ∑ l, f l = ∑ h, ∑ d, f (lane h d) := by
  rw [← lanes.sum_comp, Fintype.sum_prod_type]; rfl

/-- The head of a lane. -/
def headOf (l : Fin 512) : Fin 8 := (lanes.symm l).1

/-- The lane's place in its head. -/
def placeOf (l : Fin 512) : Fin 64 := (lanes.symm l).2

/-- The head of a lane. -/
@[simp] theorem headOf_lane (h : Fin 8) (d : Fin 64) : headOf (lane h d) = h :=
  congrArg Prod.fst (lanes.symm_apply_apply (h, d))

/-- The feature of a lane. -/
@[simp] theorem placeOf_lane (h : Fin 8) (d : Fin 64) : placeOf (lane h d) = d :=
  congrArg Prod.snd (lanes.symm_apply_apply (h, d))

/-- A lane is its head and its feature put together. -/
theorem lane_of (l : Fin 512) : lane (headOf l) (placeOf l) = l := lanes.apply_symm_apply l

/-- A sum over the 512 lanes of which only head `h`'s count is the sum over the lanes of head `h`. -/
theorem sum_head (f : Fin 8 → Fin 64 → ℝ) (h : Fin 8) :
    ∑ l, f (headOf l) (placeOf l) * (if headOf l = h then 1 else 0) = ∑ d, f h d := by
  rw [sum_lanes]
  simp only [headOf_lane, placeOf_lane]
  rw [Finset.sum_eq_single h]
  · simp
  · intro b _ hb; simp [hb]
  · simp

end Rope

end
-- ==== Proof.Block.lean ====
/- What one block of the kernel computes, lane by lane, when its inputs are real numbers. -/
module

public import proofs.«01_k».proof.Proof.Lanes
public import proofs.«01_k».proof.Proof.Gen.KernelIdeal.Skeleton

@[expose] public section

noncomputable section

namespace Rope

open Idealize.ShloMosaic Cert.KernelIdeal Cert.KernelIdeal.Gen

/-- The named constant of the clip's square. -/
theorem named_clip : (Named.named κ "clip_squared" 0x2B8CBCCC#32 : Ideal .f32) = ((clip * clip : ℝ) : EReal) := by
  rw [IdealRules.named_const.ideal_named_scalar _ _ _ _ rfl]
  unfold clip; congr 1; norm_num

/-- The named constant of the scale over the count. -/
theorem named_scale : (Named.named κ "scale_over_count" 0x384D000D#32 : Ideal .f32) = ((tenth / 2046 : ℝ) : EReal) := by
  rw [IdealRules.named_const.ideal_named_scalar _ _ _ _ rfl]
  unfold tenth; congr 1; norm_num

variable (X : Fin 8 → ℕ → ℕ → ℝ) (W : Fin 64 → Fin 64 → ℝ) (g : ℝ)

/-- The content of head `h`. -/
abbrev con (h : Fin 8) : ℕ → Fin 64 → ℝ := content (X h) W

/-- The block's rows, in lanes. -/
theorem pay2_apply (v0 : FVec Ideal S1x2048x8x64 .f32)
    (hx : ∀ s h d, v0 (ix4 0 s h d) = ((X h s.val d.val : ℝ) : EReal)) (s : Fin 2048) (h : Fin 8) (d : Fin 64) :
    k0_pay2 (F := Ideal) v0 (ix2 s (lane h d)) = ((X h s.val d.val : ℝ) : EReal) := by
  rw [← hx]
  have a : (lane h d).val / 64 = h.val := by simp; omega
  have b : (lane h d).val % 64 = d.val := by simp
  pointwise [k0_pay2]
  simp only [a, b]

/-- The product with the block diagonal matrix is each head's content. -/
theorem content_apply (v0 : FVec Ideal S1x2048x8x64 .f32) (v4 : FVec Ideal S512x512 .bf16)
    (hx : ∀ s h d, v0 (ix4 0 s h d) = ((X h s.val d.val : ℝ) : EReal))
    (hw : ∀ h k h' d, v4 (ix2 (lane h k) (lane h' d)) = ((if h = h' then W d k else 0 : ℝ) : EReal))
    (s : Fin 2048) (l : Fin 512) :
    ∑ k : Fin 512, k0_pay2 (F := Ideal) v0 (ix2 s k) * v4 (ix2 k l) = ((con X W (headOf l) s.val (placeOf l) : ℝ) : EReal) := by
  obtain ⟨h, d, rfl⟩ := lane_surj l
  rw [sum_lanes]
  simp only [pay2_apply X v0 hx, hw, coe_mul, coe_sum, headOf_lane, placeOf_lane]
  congr 1
  rw [Finset.sum_eq_single h]
  · simp [content]
  · intro b _ hb; simp [hb]
  · simp

/-- The block's scores. -/
theorem scores_apply (v0 : FVec Ideal S1x2048x8x64 .f32) (v4 : FVec Ideal S512x512 .bf16) (v12 : FVec Ideal S512x8 .bf16)
    (hx : ∀ s h d, v0 (ix4 0 s h d) = ((X h s.val d.val : ℝ) : EReal))
    (hw : ∀ h k h' d, v4 (ix2 (lane h k) (lane h' d)) = ((if h = h' then W d k else 0 : ℝ) : EReal))
    (hr : ∀ l h, v12 (ix2 l h) = ((if headOf l = h then 1 else 0 : ℝ) : EReal))
    (h1 : ∀ h i, i < 2047 → gap1 (con X W h) i = 0 ∨ tiny ≤ gap1 (con X W h) i)
    (h2 : ∀ h i, i < 2046 → √(gap2 (con X W h) i) = 0 ∨ clip ≤ √(gap2 (con X W h) i))
    (i : Fin 2046) (h : Fin 8) :
    max (1 - k0_pay3 (F := Ideal) v0 v4 v12 v12 (ix2 i h)) 0 = ((score (con X W h) i.val : ℝ) : EReal) := by
  have sq : ∀ a b : ℕ, ∑ l, (con X W (headOf l) a (placeOf l) - con X W (headOf l) b (placeOf l))
      * (con X W (headOf l) a (placeOf l) - con X W (headOf l) b (placeOf l)) * (if headOf l = h then 1 else 0)
      = ∑ d, (con X W h a d - con X W h b d) ^ 2 := fun a b => by
    rw [sum_head (fun h d => (con X W h a d - con X W h b d) * (con X W h a d - con X W h b d)) h]
    exact Finset.sum_congr rfl fun d _ => by ring
  have cr : ∀ a b e : ℕ, ∑ l, (con X W (headOf l) a (placeOf l) - con X W (headOf l) b (placeOf l))
      * (con X W (headOf l) b (placeOf l) - con X W (headOf l) e (placeOf l)) * (if headOf l = h then 1 else 0)
      = ∑ d, (con X W h a d - con X W h b d) * (con X W h b d - con X W h e d) := fun a b e =>
    sum_head (fun h d => (con X W h a d - con X W h b d) * (con X W h b d - con X W h e d)) h
  have e0 : ∑ d, (con X W h (1 + i.val) d - con X W h i.val d) ^ 2 = gap1 (con X W h) i.val := by rw [Nat.add_comm]; rfl
  have e1 : ∑ d, (con X W h (1 + (1 + i.val)) d - con X W h (1 + i.val) d) ^ 2 = gap1 (con X W h) (i.val + 1) := by
    rw [Nat.add_comm 1 i.val, Nat.add_comm 1]; rfl
  have e2 : ∑ d, (con X W h (1 + (1 + i.val)) d - con X W h (1 + i.val) d) * (con X W h (1 + i.val) d - con X W h i.val d)
      = cross (con X W h) i.val := by
    rw [Nat.add_comm 1 i.val, Nat.add_comm 1]; rfl
  rw [← score_eq (con X W h) i.val (h1 h _ (by omega)) (h1 h _ (by omega)) (h2 h _ i.isLt)]
  have p0 : (0 : ℝ) < max (gap1 (con X W h) i.val) tiny := lt_max_of_lt_right tiny_pos
  have p1 : (0 : ℝ) < max (gap1 (con X W h) (i.val + 1)) tiny := lt_max_of_lt_right tiny_pos
  have p2 : (0 : ℝ) < max (gap2 (con X W h) i.val) (clip * clip) := lt_max_of_lt_right (mul_pos clip_pos clip_pos)
  unfold k0_pay3
  pointwise [dot_S2048x512_S512x512_S2048x512_1_0_0_1_n_n, dot_S2047x512_S512x8_S2047x8_1_0_0_1_n_n,
    dot_S2046x512_S512x8_S2046x8_1_0_0_1_n_n]
  simp only [content_apply X W v0 v4 hx hw, hr, coe_sub, coe_mul, coe_sum, sq, cr, e0, e1, e2, word_tiny, word_two, named_clip,
    coe_max, coe_add, coe_max_zero, gap2_eq, max_eq_left (gap2_nonneg (con X W h) i.val), coe_rsqrt _ p0, coe_rsqrt _ p1,
    coe_rsqrt _ p2, coe_one_sub]

/-- How far each lane's position lies past the position before it. -/
theorem frac_apply (v39 : FVec Ideal S2046x8 .f32) (v44 : Ideal .f32) (v56 : FVec Ideal S8x512 .bf16)
    (hs : ∀ (i : Fin 2046) h, max (1 - v39 (ix2 i h)) 0 = ((score (con X W h) i.val : ℝ) : EReal))
    (hg : v44 = ((g : ℝ) : EReal))
    (he : ∀ h l, v56 (ix2 h l) = ((if headOf l = h then 1 else 0 : ℝ) : EReal))
    (s : Fin 2048) (h : Fin 8) (d : Fin 64) :
    k0_pay4 (F := Ideal) v39 (1 : EReal) v44 v56 (ix2 s (lane h d))
      = ((frac (con X W h) g s.val : ℝ) : EReal) := by
  have key : ∀ h' : Fin 8, (if h : s.val < 1 then Ideal.ofBits FTy.f32 3212443648#32
          else
            if h : s.val - 1 < 2046 then
              v44 * Named.named κ "scale_over_count" 944570381#32 * max (1 - v39 (ix2 ⟨s.val - 1, h⟩ h')) 0 +
                (Ideal.ofBits FTy.f32 1019215872#32 - Ideal.ofBits FTy.f32 1028443341#32 * v44)
            else Ideal.ofBits FTy.f32 1019215872#32 - Ideal.ofBits FTy.f32 1028443341#32 * v44)
        = ((frac (con X W h') g s.val - 125 / 128 : ℝ) : EReal) := by
    intro h'
    simp only [hs, hg, word_neg_centre, word_rest, word_twentieth, named_scale, coe_mul, coe_sub, coe_add]
    unfold frac adjust betw
    have hs' := s.isLt
    by_cases h0 : s.val = 0
    · simp [h0]
    · rw [dif_neg (by omega), if_neg h0]
      by_cases h9 : s.val - 1 < 2046
      · rw [dif_pos h9, if_neg (by omega)]
        congr 1; ring
      · rw [dif_neg h9, if_pos (by omega)]
        congr 1; ring
  unfold k0_pay4
  pointwise [dot_S2048x8_S8x512_S2048x512_1_0_0_1_n_n]
  simp only [key, he, headOf_lane, word_centre, coe_mul, coe_sum, coe_add]
  congr 1
  simp

/-- The words the kernel reads a lane's parity by: whether the remainder by two, corrected for signs, is zero. -/
theorem parity : ∀ n : Fin 512,
    IntOp.cmpi CmpIPredicate.eq
      (Scalar.select
        (IntOp.andi
          (IntOp.xori
            (IntOp.cmpi CmpIPredicate.slt
              (IntOp.remsi ArithUnit.vector (BitVec.ofNat 32 n.val) (Scalar.select (Scalar.cmpi CmpIPredicate.eq 2#32 0#32) 1#32 2#32))
              0#32)
            (Scalar.cmpi CmpIPredicate.slt (Scalar.select (Scalar.cmpi CmpIPredicate.eq 2#32 0#32) 1#32 2#32) 0#32))
          (IntOp.cmpi CmpIPredicate.ne
            (IntOp.remsi ArithUnit.vector (BitVec.ofNat 32 n.val) (Scalar.select (Scalar.cmpi CmpIPredicate.eq 2#32 0#32) 1#32 2#32))
            0#32))
        (IntOp.addi
          (IntOp.remsi ArithUnit.vector (BitVec.ofNat 32 n.val) (Scalar.select (Scalar.cmpi CmpIPredicate.eq 2#32 0#32) 1#32 2#32))
          (Scalar.select (Scalar.cmpi CmpIPredicate.eq 2#32 0#32) 1#32 2#32))
        (IntOp.remsi ArithUnit.vector (BitVec.ofNat 32 n.val) (Scalar.select (Scalar.cmpi CmpIPredicate.eq 2#32 0#32) 1#32 2#32)))
      0#32 = BitVec.ofBool (n.val % 2 == 0) := by
  decide +kernel

/-- The sign of a lane: minus on even lanes, plus on odd ones. -/
def sgn (d : ℕ) : ℝ := if d % 2 = 0 then -1 else 1

/-- A sign times itself is one. -/
theorem sgn_mul (d : ℕ) : sgn d * sgn d = 1 := by unfold sgn; split <;> norm_num

/-- One block of the kernel: every lane of its result is the row rotated. -/
theorem block_apply (v0 : FVec Ideal S1x2048x8x64 .f32) (v4 : FVec Ideal S512x512 .bf16) (v12 : FVec Ideal S512x8 .bf16)
    (o v44 : Ideal .f32) (v56 : FVec Ideal S8x512 .bf16) (v60 v66 : FVec Ideal S1x512 .f32) (v70 v72 : FVec Ideal S2048x512 .f32)
    (hx : ∀ s h d, v0 (ix4 0 s h d) = ((X h s.val d.val : ℝ) : EReal))
    (hw : ∀ h k h' d, v4 (ix2 (lane h k) (lane h' d)) = ((if h = h' then W d k else 0 : ℝ) : EReal))
    (hr : ∀ l h, v12 (ix2 l h) = ((if headOf l = h then 1 else 0 : ℝ) : EReal))
    (h1 : ∀ h i, i < 2047 → gap1 (con X W h) i = 0 ∨ tiny ≤ gap1 (con X W h) i)
    (h2 : ∀ h i, i < 2046 → √(gap2 (con X W h) i) = 0 ∨ clip ≤ √(gap2 (con X W h) i))
    (ho : o = 1) (hg : v44 = ((g : ℝ) : EReal))
    (he : ∀ h l, v56 (ix2 h l) = ((if headOf l = h then 1 else 0 : ℝ) : EReal))
    (hc1 : ∀ h d, v60 (ix2 0 (lane h d)) = ((Real.cos (theta (d.val / 2)) - 1 : ℝ) : EReal))
    (hs1 : ∀ h d, v66 (ix2 0 (lane h d)) = ((Real.sin (theta (d.val / 2)) * sgn d.val : ℝ) : EReal))
    (hc : ∀ s h d, v70 (ix2 s (lane h d)) = ((Real.cos (((s.val - 1 : ℕ) : ℝ) * theta (d.val / 2)) : ℝ) : EReal))
    (hs : ∀ s h d, v72 (ix2 s (lane h d)) = ((Real.sin (((s.val - 1 : ℕ) : ℝ) * theta (d.val / 2)) * sgn d.val : ℝ) : EReal))
    (s : Fin 2048) (h : Fin 8) (d : Fin 64) :
    k0_pay1 (F := Ideal) (k0_pay2 v0)
      (k0_pay9 (k0_pay3 v0 v4 v12 v12) o v44 v56 v60 v66 v70 v72)
      (k0_pay10 (k0_pay3 v0 v4 v12 v12) o v44 v56 v60 v66 v70 v72) (ix4 0 s h d)
      = ((rotated (con X W h) g (X h s.val) s.val d.val : ℝ) : EReal) := by
  subst ho
  have hf := frac_apply X W g (k0_pay3 (F := Ideal) v0 v4 v12 v12) v44 v56 (scores_apply X W v0 v4 v12 hx hw hr h1 h2) hg he
  have c9 : k0_pay9 (F := Ideal) (k0_pay3 v0 v4 v12 v12) (1 : EReal) v44 v56 v60 v66 v70 v72 (ix2 s (lane h d))
      = ((cosAt (con X W h) g s.val (d.val / 2) : ℝ) : EReal) := by
    pointwise [k0_pay9, k0_pay7, k0_pay5, k0_pay6, k0_pay8]
    simp only [hf, hc1, hs1, hc, hs, coe_mul, coe_one_add, coe_sub]
    rw [cos_step _ _ _ _ (sgn_mul _)]; rfl
  have c10 : k0_pay10 (F := Ideal) (k0_pay3 v0 v4 v12 v12) (1 : EReal) v44 v56 v60 v66 v70 v72 (ix2 s (lane h d))
      = ((sgn d.val * sinAt (con X W h) g s.val (d.val / 2) : ℝ) : EReal) := by
    pointwise [k0_pay10, k0_pay7, k0_pay5, k0_pay6, k0_pay8]
    simp only [hf, hc1, hs1, hc, hs, coe_mul, coe_one_add, coe_add]
    rw [sin_step]; rfl
  have hp := parity (lane h d)
  generalize k0_pay9 (F := Ideal) (k0_pay3 v0 v4 v12 v12) (1 : EReal) v44 v56 v60 v66 v70 v72 = A at *
  generalize k0_pay10 (F := Ideal) (k0_pay3 v0 v4 v12 v12) (1 : EReal) v44 v56 v60 v66 v70 v72 = B at *
  have hl : (⟨h.val * 64 + d.val, (lane h d).isLt⟩ : Fin 512) = lane h d := rfl
  have hp2 := pay2_apply X v0 hx s
  pointwise [k0_pay1]
  simp only [lane_val] at hp
  simp only [hp, hl, hp2, c9, c10]
  unfold rotated
  by_cases hd : d.val % 2 = 0
  · have e : (h.val * 64 + d.val) % 2 = 0 := by omega
    have hlt : h.val * 64 + d.val < 511 := by omega
    have hn : (⟨1 + (h.val * 64 + d.val), by omega⟩ : Fin 512) = lane h ⟨d.val + 1, by omega⟩ := Fin.ext (by simp; omega)
    rw [if_pos hd]
    simp only [e, dif_pos hlt, hn, hp2, sgn, hd, if_true, beq_self_eq_true, BitVec.ofBool_true]
    show ((X h s.val d.val : ℝ) : EReal) * ((cosAt (con X W h) g s.val (d.val / 2) : ℝ) : EReal)
      + ((X h s.val (d.val + 1) : ℝ) : EReal) * ((-1 * sinAt (con X W h) g s.val (d.val / 2) : ℝ) : EReal) = _
    rw [coe_mul, coe_mul, coe_add]
    congr 1; ring
  · have e : (h.val * 64 + d.val) % 2 = 1 := by omega
    have hlt : ¬ h.val * 64 + d.val < 1 := by omega
    have hn : (⟨h.val * 64 + d.val - 1, by omega⟩ : Fin 512) = lane h ⟨d.val - 1, by omega⟩ := Fin.ext (by simp; omega)
    rw [if_neg hd]
    simp only [e, dif_neg hlt, hn, hp2, sgn, hd, if_false, Nat.one_ne_zero, beq_iff_eq, decide_false]
    show ((X h s.val d.val : ℝ) : EReal) * ((cosAt (con X W h) g s.val (d.val / 2) : ℝ) : EReal)
      + ((X h s.val (d.val - 1) : ℝ) : EReal) * ((1 * sinAt (con X W h) g s.val (d.val / 2) : ℝ) : EReal) = _
    rw [coe_mul, coe_mul, coe_add]
    congr 1; ring

end Rope

end
-- ==== Proof.Words.lean ====
/- The words of the tables the kernel's program writes out. -/
module

public import proofs.«01_k».proof.KernelIdeal

@[expose] public section

namespace Rope

open Idealize.ShloMosaic Cert.KernelIdeal

/-- The words of the signs, as the first table holds them. -/
theorem lit0_eq : ∀ d : Fin 64, lit0 d = if d.val % 2 = 0 then 0xBF800000#32 else 0x3F800000#32 := by decide +kernel

/-- The words of the signs, as the second table holds them. -/
theorem lit1_eq : ∀ d : Fin 64, lit1 d = if d.val % 2 = 0 then 0xBF800000#32 else 0x3F800000#32 := by decide +kernel

/-- The words of the matrix that sums each head's lanes. -/
theorem lit2_eq : ∀ n : Fin 4096, lit2 n = if n.val / 8 / 64 = n.val % 8 then 0x3F80#16 else 0#16 := by decide +kernel

/-- The words of the matrix that repeats a head's number over its lanes. -/
theorem lit3_eq : ∀ n : Fin 4096, lit3 n = if n.val % 512 / 64 = n.val / 512 then 0x3F80#16 else 0#16 := by decide +kernel

end Rope

end
-- ==== Proof.Literals.lean ====
/- The tables the kernel's program writes out, and the words its tables of angles are computed from. -/
module

public import proofs.«01_k».proof.Proof.Block
public import proofs.«01_k».proof.Proof.Words

@[expose] public section

noncomputable section

namespace Rope

open Idealize.ShloMosaic Cert.KernelIdeal

/-- A count read as a number. -/
theorem coe_sitofp (n : ℕ) (h : n < 2 ^ 31) :
    (FloatOps.sitofp (F := Ideal) .f32 (BitVec.ofNat 32 n) : Ideal .f32) = ((n : ℝ) : EReal) := by
  show (((BitVec.ofNat 32 n).toInt : ℝ) : EReal) = _
  have e : (BitVec.ofNat 32 n).toInt = (n : ℤ) := by
    rw [BitVec.toInt_eq_toNat_cond, BitVec.toNat_ofNat, Nat.mod_eq_of_lt (by omega), if_pos (by omega)]
  rw [e]; push_cast; rfl

/-- A real number less one. -/
theorem coe_sub_one (x : ℝ) : (x : EReal) - 1 = ((x - 1 : ℝ) : EReal) := by
  rw [← EReal.coe_one, EReal.coe_sub]

/-- The programs' computation of the frequency of lane pair `j`. -/
theorem word_angle (j : ℕ) (h : j < 2 ^ 31) :
    Ideal.div 1 (Ideal.pow (Ideal.ofBits .f32 0x461C4000#32)
      (Ideal.div (Ideal.ofBits .f32 0x40000000#32 * FloatOps.sitofp (F := Ideal) .f32 (BitVec.ofNat 32 j))
        (Ideal.ofBits .f32 0x42800000#32))) = ((theta j : ℝ) : EReal) := by
  rw [coe_sitofp j h, word_base, word_two, word_sixtyfour, coe_mul, coe_div _ _ (by norm_num), Ideal.pow_coe_coe, ← EReal.coe_one]
  have hp : (0 : ℝ) < (10000 : ℝ) ^ (2 * (j : ℝ) / 64) := Real.rpow_pos_of_pos (by norm_num) _
  exact coe_div 1 _ hp.ne'

/-- The feature of a lane, as a remainder. -/
theorem lane_place (h : Fin 8) (d : Fin 64) : (h.val * 64 + d.val) % 64 = d.val := by omega

/-- The head of a lane, as a quotient. -/
theorem lane_head (h : Fin 8) (d : Fin 64) : (h.val * 64 + d.val) / 64 = h.val := by omega

/-- The words of the two signs. -/
theorem word_sgn (d : ℕ) : Ideal.ofBits .f32 (if d % 2 = 0 then 0xBF800000#32 else 0x3F800000#32) = ((sgn d : ℝ) : EReal) := by
  unfold sgn
  split
  · exact word_neg_one
  · exact Ideal.ofBits_one_f32

/-- A word of the first table of signs is the lane's sign. -/
theorem sign0 (d : Fin 64) : Ideal.ofBits .f32 (lit0 (S64.rowMajor (ix1 d))) = ((sgn d.val : ℝ) : EReal) := by
  have e : S64.rowMajor (ix1 d) = d := Fin.ext (rowMajor_val1 _)
  rw [e, lit0_eq, word_sgn]

/-- A word of the second table of signs is the lane's sign. -/
theorem sign1 (d : Fin 64) : Ideal.ofBits .f32 (lit1 (S64.rowMajor (ix1 d))) = ((sgn d.val : ℝ) : EReal) := by
  have e : S64.rowMajor (ix1 d) = d := Fin.ext (rowMajor_val1 _)
  rw [e, lit1_eq, word_sgn]

/-- The number of the head of a lane. -/
theorem headOf_val (l : Fin 512) : (headOf l).val = l.val / 64 := rfl

/-- The words of one and of zero in the shorter format. -/
theorem word_flag (p : Prop) [Decidable p] : Ideal.ofBits .bf16 (if p then 0x3F80#16 else 0#16) = ((if p then 1 else 0 : ℝ) : EReal) := by
  split
  · exact Ideal.ofBits_one_bf16
  · exact Ideal.ofBits_zero_bf16

/-- The matrix that sums each head's lanes is the heads' indicator. -/
theorem word_lit2 (l : Fin 512) (h : Fin 8) :
    Ideal.ofBits .bf16 (lit2 (S512x8.rowMajor (ix2 l h))) = ((if headOf l = h then 1 else 0 : ℝ) : EReal) := by
  have e : (S512x8.rowMajor (ix2 l h)).val = l.val * 8 + h.val := rowMajor_val2 _ 8 rfl
  have e2 : lit2 (S512x8.rowMajor (ix2 l h)) = if headOf l = h then 0x3F80#16 else 0#16 := by
    refine (lit2_eq _).trans ?_
    refine if_congr ?_ rfl rfl
    have a : (l.val * 8 + h.val) / 8 = l.val := by omega
    have b : (l.val * 8 + h.val) % 8 = h.val := by omega
    rw [Fin.ext_iff, headOf_val, e, a, b]
  rw [e2, word_flag]

/-- The matrix that repeats each head's number is the heads' indicator. -/
theorem word_lit3 (h : Fin 8) (l : Fin 512) :
    Ideal.ofBits .bf16 (lit3 (S8x512.rowMajor (ix2 h l))) = ((if headOf l = h then 1 else 0 : ℝ) : EReal) := by
  have e : (S8x512.rowMajor (ix2 h l)).val = h.val * 512 + l.val := rowMajor_val2 _ 512 rfl
  have e2 : lit3 (S8x512.rowMajor (ix2 h l)) = if headOf l = h then 0x3F80#16 else 0#16 := by
    refine (lit3_eq _).trans ?_
    refine if_congr ?_ rfl rfl
    have a : (h.val * 512 + l.val) / 512 = h.val := by omega
    have b : (h.val * 512 + l.val) % 512 = l.val := by omega
    rw [Fin.ext_iff, headOf_val, e, a, b]
  rw [e2, word_flag]

/-- The host's unit matrix, entry by entry. -/
theorem eye (a b : Fin 8) :
    (FloatOps.uitofp (F := Ideal) .f32 (IntOp.cmpi CmpIPredicate.eq (IntOp.addi (BitVec.ofNat 32 a.val) 0#32) (BitVec.ofNat 32 b.val)) : Ideal .f32)
      = ((if a = b then 1 else 0 : ℝ) : EReal) := by
  have : ∀ a b : Fin 8, IntOp.cmpi CmpIPredicate.eq (IntOp.addi (BitVec.ofNat 32 a.val) 0#32) (BitVec.ofNat 32 b.val)
      = if a = b then 1#1 else 0#1 := by decide +kernel
  rw [this]
  show (((if a = b then 1#1 else 0#1 : BitVec 1).toNat : ℝ) : EReal) = _
  split <;> simp

end Rope

end
-- ==== Proof.Tables.lean ====
/- What the host operations hand to the kernel: the tables of cosines and sines, the repeated weights, the indicators. -/
module

public import proofs.«01_k».proof.Proof.Literals
public import proofs.«01_k».proof.Proof.Gen.KernelIdeal.Value

@[expose] public section

noncomputable section

namespace Rope

open Idealize.ShloMosaic Idealize.ShloMosaic.TcCoe Idealize.ShloMosaic.StableHlo Idealize.SL.Sem Cert.KernelIdeal Cert.KernelIdeal.Gen

variable (m : (ℓ : Loc nD τ sig) → Buf (Elt Ideal) ℓ) (c : Dev nD)

set_option maxRecDepth 8192 in
set_option maxHeartbeats 4000000 in
/-- The table of cosines, one row behind. -/
theorem V34 (s : Fin 2048) (h : Fin 8) (d : Fin 64) : (V m c main_v34 : FVec Ideal S2048x512 .f32) (ix2 s (lane h d)) = ((Real.cos (((s.val - 1 : ℕ) : ℝ) * theta (d.val / 2)) : ℝ) : EReal) := by
  show (StableHlo.after (List.flatten [hostOps0, hostOps0_1, hostOps0_2]) (fun b => m (c, b)) (Proc.devRef .tc main_v34) : FVec Ideal S2048x512 .f32) (ix2 s (lane h d)) = _
  simp only [hostOps0, hostOps0_1, hostOps0_2, List.flatten_cons, List.flatten_nil, List.append_nil, List.cons_append,
      List.nil_append, TRef.binary, TRef.nullary, TRef.unary, TRef.reshape, TRef.toBuf, TRef.ofBuf, cast_eq]
  after_results_simp
  after_results_loop
  pointwise
  have hs := s.isLt
  have a := lane_place h d
  simp only [lane_val, a]
  by_cases h0 : s.val < 1
  · rw [dif_pos h0, coe_sitofp _ (by omega), word_angle _ (by omega), coe_mul, Ideal.cos_coe]
    rw [show s.val - 1 = s.val by omega]
  · rw [dif_neg h0, coe_sitofp _ (by omega), word_angle _ (by omega), coe_mul, Ideal.cos_coe]

set_option maxRecDepth 8192 in
set_option maxHeartbeats 4000000 in
/-- The table of signed sines, one row behind. -/
theorem V37 (s : Fin 2048) (h : Fin 8) (d : Fin 64) : (V m c main_v37 : FVec Ideal S2048x512 .f32) (ix2 s (lane h d)) = ((Real.sin (((s.val - 1 : ℕ) : ℝ) * theta (d.val / 2)) * sgn d.val : ℝ) : EReal) := by
  show (StableHlo.after (List.flatten [hostOps0, hostOps0_1, hostOps0_2]) (fun b => m (c, b)) (Proc.devRef .tc main_v37) : FVec Ideal S2048x512 .f32) (ix2 s (lane h d)) = _
  simp only [hostOps0, hostOps0_1, hostOps0_2, List.flatten_cons, List.flatten_nil, List.append_nil, List.cons_append,
      List.nil_append, TRef.binary, TRef.nullary, TRef.unary, TRef.reshape, TRef.toBuf, TRef.ofBuf, cast_eq]
  after_results_simp
  after_results_loop
  pointwise
  have hs := s.isLt
  have a := lane_place h d
  simp only [lane_val, a]
  by_cases h0 : s.val < 1
  · rw [dif_pos h0, coe_sitofp _ (by omega), word_angle _ (by omega), coe_mul, Ideal.sin_coe, sign0, Rope.coe_mul]
    rw [show s.val - 1 = s.val by omega]
  · rw [dif_neg h0, coe_sitofp _ (by omega), word_angle _ (by omega), coe_mul, Ideal.sin_coe, sign0, Rope.coe_mul]

set_option maxRecDepth 8192 in
set_option maxHeartbeats 4000000 in
/-- One step's cosine, less one. -/
theorem V54 (r h : Fin 8) (d : Fin 64) : (V m c main_v54 : FVec Ideal S8x512 .f32) (ix2 r (lane h d)) = ((Real.cos (theta (d.val / 2)) - 1 : ℝ) : EReal) := by
  show (StableHlo.after (List.flatten [hostOps0, hostOps0_1, hostOps0_2]) (fun b => m (c, b)) (Proc.devRef .tc main_v54) : FVec Ideal S8x512 .f32) (ix2 r (lane h d)) = _
  simp only [hostOps0, hostOps0_1, hostOps0_2, List.flatten_cons, List.flatten_nil, List.append_nil, List.cons_append,
      List.nil_append, TRef.binary, TRef.nullary, TRef.unary, TRef.reshape, TRef.toBuf, TRef.ofBuf, cast_eq]
  after_results_simp
  pointwise
  have a := lane_place h d
  simp only [lane_val, a]
  rw [word_angle _ (by omega), Ideal.cos_coe, coe_sub_one]

set_option maxRecDepth 8192 in
set_option maxHeartbeats 4000000 in
/-- One step's signed sine. -/
theorem V58 (r h : Fin 8) (d : Fin 64) : (V m c main_v58 : FVec Ideal S8x512 .f32) (ix2 r (lane h d)) = ((Real.sin (theta (d.val / 2)) * sgn d.val : ℝ) : EReal) := by
  show (StableHlo.after (List.flatten [hostOps0, hostOps0_1, hostOps0_2]) (fun b => m (c, b)) (Proc.devRef .tc main_v58) : FVec Ideal S8x512 .f32) (ix2 r (lane h d)) = _
  simp only [hostOps0, hostOps0_1, hostOps0_2, List.flatten_cons, List.flatten_nil, List.append_nil, List.cons_append,
      List.nil_append, TRef.binary, TRef.nullary, TRef.unary, TRef.reshape, TRef.toBuf, TRef.ofBuf, cast_eq]
  after_results_simp
  pointwise
  have a := lane_place h d
  simp only [lane_val, a]
  rw [word_angle _ (by omega), Ideal.sin_coe, sign1, coe_mul]

set_option maxRecDepth 8192 in
set_option maxHeartbeats 4000000 in
/-- The block diagonal matrix of the transposed weights. -/
theorem V67 (hW : ∀ d k, ((((m (c, Proc.tc.devRef main_arg1) : FVec Ideal S64x64 .f32) (ix2 d k)).toReal : ℝ) : EReal) = (m (c, Proc.tc.devRef main_arg1) : FVec Ideal S64x64 .f32) (ix2 d k))
    (h : Fin 8) (k : Fin 64) (h' : Fin 8) (d : Fin 64) : (V m c main_v67 : FVec Ideal S512x512 .bf16) (ix2 (lane h k) (lane h' d)) = ((if h = h' then ((m (c, Proc.tc.devRef main_arg1) : FVec Ideal S64x64 .f32) (ix2 d k)).toReal else 0 : ℝ) : EReal) := by
  show (StableHlo.after (List.flatten [hostOps0, hostOps0_1, hostOps0_2]) (fun b => m (c, b)) (Proc.devRef .tc main_v67) : FVec Ideal S512x512 .bf16) (ix2 (lane h k) (lane h' d)) = _
  simp only [hostOps0, hostOps0_1, hostOps0_2, List.flatten_cons, List.flatten_nil, List.append_nil, List.cons_append,
      List.nil_append, TRef.binary, TRef.nullary, TRef.unary, TRef.reshape, TRef.toBuf, TRef.ofBuf, cast_eq]
  after_results_simp
  pointwise
  have a := lane_place h k
  have a' := lane_place h' d
  have b := lane_head h k
  have b' := lane_head h' d
  simp only [lane_val, a, a', b, b']
  rw [eye]
  have hw := hW d k
  rw [← hw]
  by_cases e : h = h'
  · simp [e]
  · simp [e]

set_option maxRecDepth 8192 in
set_option maxHeartbeats 4000000 in
/-- The gate. -/
theorem V68  : (V m c main_v68 : FVec Ideal S1x1 .f32) (ix2 0 0) = (m (c, Proc.tc.devRef main_arg3) : FVec Ideal S1 .f32) (ix1 0) := by
  show (StableHlo.after (List.flatten [hostOps0, hostOps0_1, hostOps0_2]) (fun b => m (c, b)) (Proc.devRef .tc main_v68) : FVec Ideal S1x1 .f32) (ix2 0 0) = _
  simp only [hostOps0, hostOps0_1, hostOps0_2, List.flatten_cons, List.flatten_nil, List.append_nil, List.cons_append,
      List.nil_append, TRef.binary, TRef.nullary, TRef.unary, TRef.reshape, TRef.toBuf, TRef.ofBuf, cast_eq]
  after_results_simp
  pointwise

set_option maxRecDepth 8192 in
set_option maxHeartbeats 4000000 in
/-- The matrix that sums each head's lanes. -/
theorem Vc1 (l : Fin 512) (h : Fin 8) : (V m c main_cst_1 : FVec Ideal S512x8 .bf16) (ix2 l h) = ((if headOf l = h then 1 else 0 : ℝ) : EReal) := by
  show (StableHlo.after (List.flatten [hostOps0, hostOps0_1, hostOps0_2]) (fun b => m (c, b)) (Proc.devRef .tc main_cst_1) : FVec Ideal S512x8 .bf16) (ix2 l h) = _
  simp only [hostOps0, hostOps0_1, hostOps0_2, List.flatten_cons, List.flatten_nil, List.append_nil, List.cons_append,
      List.nil_append, TRef.binary, TRef.nullary, TRef.unary, TRef.reshape, TRef.toBuf, TRef.ofBuf, cast_eq]
  after_results_simp
  pointwise
  exact word_lit2 l h

set_option maxRecDepth 8192 in
set_option maxHeartbeats 4000000 in
/-- The matrix that repeats each head's number over its lanes. -/
theorem Vc2 (h : Fin 8) (l : Fin 512) : (V m c main_cst_2 : FVec Ideal S8x512 .bf16) (ix2 h l) = ((if headOf l = h then 1 else 0 : ℝ) : EReal) := by
  show (StableHlo.after (List.flatten [hostOps0, hostOps0_1, hostOps0_2]) (fun b => m (c, b)) (Proc.devRef .tc main_cst_2) : FVec Ideal S8x512 .bf16) (ix2 h l) = _
  simp only [hostOps0, hostOps0_1, hostOps0_2, List.flatten_cons, List.flatten_nil, List.append_nil, List.cons_append,
      List.nil_append, TRef.binary, TRef.nullary, TRef.unary, TRef.reshape, TRef.toBuf, TRef.ofBuf, cast_eq]
  after_results_simp
  pointwise
  exact word_lit3 h l

end Rope

end
-- ==== Proof.Inputs.lean ====
/- The arguments as real numbers, and what the precondition says of them. -/
module

public import proofs.«01_k».proof.Proof.Consts
public import Idealize.ShloMosaic.Lib.Pointwise

@[expose] public section

noncomputable section

namespace Rope

open Idealize.ShloMosaic

/-- The rows of head `h` of batch `b`, as real numbers; zero outside the array. -/
def rows (x : FVec Ideal ⟨4, ![2, 2048, 16, 64]⟩ .f32) (b : Fin 2) (h : Fin 16) (s d : ℕ) : ℝ :=
  if hs : s < 2048 ∧ d < 64 then (x (ix4 b ⟨s, hs.1⟩ h ⟨d, hs.2⟩)).toReal else 0

/-- The weights, as real numbers. -/
def weights (w : FVec Ideal ⟨2, ![64, 64]⟩ .f32) (d k : Fin 64) : ℝ := (w (ix2 d k)).toReal

/-- The gate, as a real number. -/
def gate (γ : FVec Ideal ⟨1, ![1]⟩ .f32) : ℝ := (γ (ix1 0)).toReal

/-- The content of head `h` of batch `b`. -/
abbrev contents (x : FVec Ideal ⟨4, ![2, 2048, 16, 64]⟩ .f32) (w : FVec Ideal ⟨2, ![64, 64]⟩ .f32) (b : Fin 2) (h : Fin 16) :
    ℕ → Fin 64 → ℝ :=
  content (rows x b h) (weights w)

/-- What the precondition says: the arguments are real numbers, the gate moves a position back by at most one, and no distance
    between contents is smaller than the smallest the kernel's roots tell from zero, unless it is zero. -/
structure Tame (x : FVec Ideal ⟨4, ![2, 2048, 16, 64]⟩ .f32) (w : FVec Ideal ⟨2, ![64, 64]⟩ .f32)
    (β : FVec Ideal ⟨1, ![64]⟩ .f32) (γ : FVec Ideal ⟨1, ![1]⟩ .f32) : Prop where
  x_real : ∀ b s h d, (((x (ix4 b s h d)).toReal : ℝ) : EReal) = x (ix4 b s h d)
  w_real : ∀ d k, (((w (ix2 d k)).toReal : ℝ) : EReal) = w (ix2 d k)
  b_real : ∀ d, (((β (ix1 d)).toReal : ℝ) : EReal) = β (ix1 d)
  g_real : (((γ (ix1 0)).toReal : ℝ) : EReal) = γ (ix1 0)
  g_nonneg : 0 ≤ gate γ
  g_le : gate γ * tenth ≤ 2
  step1 : ∀ b h i, i < 2047 → gap1 (contents x w b h) i = 0 ∨ tiny ≤ gap1 (contents x w b h) i
  step2 : ∀ b h i, i < 2046 → √(gap2 (contents x w b h) i) = 0 ∨ clip ≤ √(gap2 (contents x w b h) i)

/-- What both programs compute at one index: the row rotated at its moved position. -/
def result (x : FVec Ideal ⟨4, ![2, 2048, 16, 64]⟩ .f32) (w : FVec Ideal ⟨2, ![64, 64]⟩ .f32) (γ : FVec Ideal ⟨1, ![1]⟩ .f32)
    (b : Fin 2) (s : Fin 2048) (h : Fin 16) (d : Fin 64) : ℝ :=
  rotated (contents x w b h) (gate γ) (rows x b h s.val) s.val d.val

variable {x : FVec Ideal ⟨4, ![2, 2048, 16, 64]⟩ .f32} {w : FVec Ideal ⟨2, ![64, 64]⟩ .f32}
    {β : FVec Ideal ⟨1, ![64]⟩ .f32} {γ : FVec Ideal ⟨1, ![1]⟩ .f32}

/-- A row in range is the argument read as a real. -/
theorem rows_eq (x : FVec Ideal ⟨4, ![2, 2048, 16, 64]⟩ .f32) (b : Fin 2) (s : Fin 2048) (h : Fin 16) (d : Fin 64) :
    rows x b h s.val d.val = (x (ix4 b s h d)).toReal := by
  unfold rows; rw [dif_pos ⟨s.isLt, d.isLt⟩]

/-- An argument's entry is the real number taken of it. -/
theorem Tame.x_eq (H : Tame x w β γ) (b : Fin 2) (s : Fin 2048) (h : Fin 16) (d : Fin 64) :
    x (ix4 b s h d) = ((rows x b h s.val d.val : ℝ) : EReal) := by
  rw [rows_eq, H.x_real]

/-- A weight is the real number taken of it. -/
theorem Tame.w_eq (H : Tame x w β γ) (d k : Fin 64) : w (ix2 d k) = ((weights w d k : ℝ) : EReal) := (H.w_real d k).symm

/-- The gate is the real number taken of it. -/
theorem Tame.g_eq (H : Tame x w β γ) : γ (ix1 0) = ((gate γ : ℝ) : EReal) := H.g_real.symm

end Rope

end
-- ==== Proof.Out.lean ====
/- What one run of the kernel's body leaves in its output block, and what the result array holds after the run. -/
module

public import proofs.«01_k».proof.Proof.Tables
public import proofs.«01_k».proof.Proof.Inputs
public import Idealize.ShloMosaic.Lib.Pipeline.Value

@[expose] public section

noncomputable section

namespace Rope

open Idealize.ShloMosaic Idealize.ShloMosaic.TcCoe Idealize.SL.Sem Cert.KernelIdeal Cert.KernelIdeal.Gen

/-- Two zeros. -/
theorem zero2 : (![0, 0] : Fin 2 → Nat) = fun _ => 0 := by decide

/-- Four zeros. -/
theorem zero4 : (![0, 0, 0, 0] : Fin 4 → Nat) = fun _ => 0 := by decide

set_option maxRecDepth 8192 in
/-- The output block after the body: the body's last value, of the whole input blocks, the gate's one word, and the first rows
    of the two step tables. -/
theorem out_eq  (c : Dev nD) (i : grid0.Coords) (arg2 : Memref sig .tc .vmem S1x2048x8x64 .f32) (harg2 : arg2.IsWhole) (arg3 : Memref sig .tc .vmem S512x512 .bf16) (harg3 : arg3.IsWhole) (arg4 : Memref sig .tc .smem S1x1 .f32) (harg4 : arg4.IsWhole) (arg5 : Memref sig .tc .vmem S512x8 .bf16) (harg5 : arg5.IsWhole) (arg6 : Memref sig .tc .vmem S8x512 .bf16) (harg6 : arg6.IsWhole) (arg7 : Memref sig .tc .vmem S2048x512 .f32) (harg7 : arg7.IsWhole) (arg8 : Memref sig .tc .vmem S2048x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S1x2048x8x64 .f32) (harg11 : arg11.IsWhole)
    (x0 : Vec Ideal S1x2048x8x64 .f32) (x1 : Vec Ideal S512x512 .bf16) (x2 : Vec Ideal S1x1 .f32) (x3 : Vec Ideal S512x8 .bf16) (x4 : Vec Ideal S8x512 .bf16) (x5 : Vec Ideal S2048x512 .f32) (x6 : Vec Ideal S2048x512 .f32) (x7 : Vec Ideal S8x512 .f32) (x8 : Vec Ideal S8x512 .f32) :
    out0_A_9 (F := Ideal) c i arg2 harg2 arg3 harg3 arg4 harg4 arg5 harg5 arg6 harg6 arg7 harg7 arg8 harg8 arg9 harg9 arg10 harg10 arg11 harg11 x0 x1 x2 x3 x4 x5 x6 x7 x8 =
      k0_pay1 (k0_pay2 x0)
        (k0_pay9 (k0_pay3 x0 x1 x3 x3) (FloatOps.ofBits (F := Ideal) FTy.f32 1065353216#32) (x2 (ix2 0 0)) x4
          (fun j : S1x512.Idx => x7 (ix2 0 (j 1))) (fun j : S1x512.Idx => x8 (ix2 0 (j 1))) x5 x6)
        (k0_pay10 (k0_pay3 x0 x1 x3 x3) (FloatOps.ofBits (F := Ideal) FTy.f32 1065353216#32) (x2 (ix2 0 0)) x4
          (fun j : S1x512.Idx => x7 (ix2 0 (j 1))) (fun j : S1x512.Idx => x8 (ix2 0 (j 1))) x5 x6) := by
  unfold out0_A_9
  rw [View.read_writes_junk_eq_canon]
  unfold kernelRun0_A
  dsimp only
  sl_unfold_words
  simp only [View.readAt_eq_ld, harg2.read_unread, harg3.read_unread, harg4.read_unread, harg5.read_unread,
    harg6.read_unread, harg7.read_unread, harg8.read_unread, harg9.read_unread, harg10.read_unread]
  rw [View.canon_unit_zero (S := S1x2048x8x64) zero4, View.ld_unit_zero (S := S1x2048x8x64) zero4,
    View.ld_unit_zero (S := S512x512) zero2, View.ld_unit_zero (S := S512x8) zero2, View.ld_unit_zero (S := S1x1) zero2,
    View.ld_unit_zero (S := S8x512) zero2, View.ld_unit_zero (S := S2048x512) zero2, View.ld_unit_zero (S := S2048x512) zero2]
  have r : ∀ (y : Vec Ideal S8x512 .f32),
      (View.ld y (Rect.unit ![0, 0] ![1, 512] inb_S8x512_S1x512_0_0) : Vec Ideal S1x512 .f32)
        = fun j : S1x512.Idx => y (ix2 0 (j 1)) := by
    intro y; funext j
    refine congrArg y (funext fun a => Fin.ext ?_)
    have hj : (j 0).val < 1 := (j 0).isLt
    match a with
    | ⟨0, _⟩ => show 0 + 1 * (j 0).val = 0; omega
    | ⟨1, _⟩ => show 0 + 1 * (j 1).val = (j 1).val; omega
  have f : (Shape.Idx.first (by decide) : S1x1.Idx) = ix2 0 0 := by
    funext a; match a with
    | ⟨0, _⟩ => rfl
    | ⟨1, _⟩ => rfl
  rw [r, r, f]

end Rope

end
-- ==== Proof.Array.lean ====
/- What the kernel's result array holds after the run: at every index, the row rotated at its moved position. -/
module

public import proofs.«01_k».proof.Proof.Out
public import proofs.«01_k».proof.Proof.Gen.KernelIdeal.Value

@[expose] public section

noncomputable section

namespace Rope

open Idealize.ShloMosaic Idealize.ShloMosaic.TcCoe Idealize.SL.Sem Cert.KernelIdeal Cert.KernelIdeal.Gen Cert.KernelIdeal.Value

/-- The block of `x` and of the result at a grid point: one batch, every position, eight heads, every feature. -/
theorem index9 : ∀ t : Fin cfg0.N, win0_9.index t (0 : Fin 4) = t.val / 2 ∧ win0_9.index t (1 : Fin 4) = 0
    ∧ win0_9.index t (2 : Fin 4) = t.val % 2 ∧ win0_9.index t (3 : Fin 4) = 0 :=
  (by decide +kernel : ∀ t : Fin grid0.N, _)

/-- The block of `x` at a grid point is at the same place. -/
theorem index0 : ∀ t : Fin cfg0.N, win0_0.index t (0 : Fin 4) = t.val / 2 ∧ win0_0.index t (1 : Fin 4) = 0
    ∧ win0_0.index t (2 : Fin 4) = t.val % 2 ∧ win0_0.index t (3 : Fin 4) = 0 :=
  (by decide +kernel : ∀ t : Fin grid0.N, _)

/-- The grid has four points. -/
theorem points : cfg0.N = 4 := by decide

/-- The batch of a grid point. -/
def batch (t : Fin cfg0.N) : Fin 2 := ⟨t.val / 2, by have := t.isLt; have := points; omega⟩

/-- The head at place `h` of a grid point's block. -/
def head (t : Fin cfg0.N) (h : Fin 8) : Fin 16 := ⟨t.val % 2 * 8 + h.val, by omega⟩

/-- An index of the result's block, in the array. -/
theorem emb9 (t : Fin cfg0.N) (s : Fin 2048) (h : Fin 8) (d : Fin 64) :
    ((cfg0.win 9).blk t).view.emb (ix4 0 s h d : S1x2048x8x64.Idx) = (ix4 (batch t) s (head t h) d : S2x2048x16x64.Idx) := by
  obtain ⟨e0, e1, e2, e3⟩ := index9 t
  funext a
  apply Fin.ext
  match a with
  | ⟨0, _⟩ => show win0_9.index t (0 : Fin 4) * 1 + 1 * 0 = t.val / 2; omega
  | ⟨1, _⟩ => show win0_9.index t (1 : Fin 4) * 2048 + 1 * s.val = s.val; omega
  | ⟨2, _⟩ => show win0_9.index t (2 : Fin 4) * 8 + 1 * h.val = t.val % 2 * 8 + h.val; omega
  | ⟨3, _⟩ => show win0_9.index t (3 : Fin 4) * 64 + 1 * d.val = d.val; omega

/-- An index of the block of `x`, in the array. -/
theorem emb0 (t : Fin cfg0.N) (s : Fin 2048) (h : Fin 8) (d : Fin 64) :
    ((cfg0.win 0).blk t).view.emb (ix4 0 s h d : S1x2048x8x64.Idx) = (ix4 (batch t) s (head t h) d : S2x2048x16x64.Idx) := by
  obtain ⟨e0, e1, e2, e3⟩ := index0 t
  funext a
  apply Fin.ext
  match a with
  | ⟨0, _⟩ => show win0_0.index t (0 : Fin 4) * 1 + 1 * 0 = t.val / 2; omega
  | ⟨1, _⟩ => show win0_0.index t (1 : Fin 4) * 2048 + 1 * s.val = s.val; omega
  | ⟨2, _⟩ => show win0_0.index t (2 : Fin 4) * 8 + 1 * h.val = t.val % 2 * 8 + h.val; omega
  | ⟨3, _⟩ => show win0_0.index t (3 : Fin 4) * 64 + 1 * d.val = d.val; omega

variable (m : (ℓ : Loc nD τ sig) → Buf (Elt Ideal) ℓ) (c : Dev nD)

/-- Window 1's block is the whole of its array at every grid point. -/
theorem index1 : ∀ t : Fin cfg0.N, win0_1.index t (0 : Fin 2) = 0 ∧ win0_1.index t (1 : Fin 2) = 0 :=
  (by decide +kernel : ∀ t : Fin grid0.N, _)

/-- So what the body reads of it is the array. -/
theorem whole1 (t : Fin cfg0.N) : (iblk m c 1 t : FVec Ideal S512x512 .bf16) = (V m c main_v67 : FVec Ideal S512x512 .bf16) := by
  obtain ⟨e0, e1⟩ := index1 t
  funext j
  show (V m c main_v67 : FVec Ideal S512x512 .bf16) (((cfg0.win 1).blk t).view.emb j) = _
  refine congrArg (V m c main_v67 : FVec Ideal S512x512 .bf16) (funext fun a => Fin.ext ?_)
  match a with
  | ⟨0, _⟩ => show win0_1.index t (0 : Fin 2) * 512 + 1 * (j 0).val = (j 0).val; omega
  | ⟨1, _⟩ => show win0_1.index t (1 : Fin 2) * 512 + 1 * (j 1).val = (j 1).val; omega

/-- Window 2's block is the whole of its array at every grid point. -/
theorem index2 : ∀ t : Fin cfg0.N, win0_2.index t (0 : Fin 2) = 0 ∧ win0_2.index t (1 : Fin 2) = 0 :=
  (by decide +kernel : ∀ t : Fin grid0.N, _)

/-- So what the body reads of it is the array. -/
theorem whole2 (t : Fin cfg0.N) : (iblk m c 2 t : FVec Ideal S1x1 .f32) = (V m c main_v68 : FVec Ideal S1x1 .f32) := by
  obtain ⟨e0, e1⟩ := index2 t
  funext j
  show (V m c main_v68 : FVec Ideal S1x1 .f32) (((cfg0.win 2).blk t).view.emb j) = _
  refine congrArg (V m c main_v68 : FVec Ideal S1x1 .f32) (funext fun a => Fin.ext ?_)
  match a with
  | ⟨0, _⟩ => show win0_2.index t (0 : Fin 2) * 1 + 1 * (j 0).val = (j 0).val; omega
  | ⟨1, _⟩ => show win0_2.index t (1 : Fin 2) * 1 + 1 * (j 1).val = (j 1).val; omega

/-- Window 3's block is the whole of its array at every grid point. -/
theorem index3 : ∀ t : Fin cfg0.N, win0_3.index t (0 : Fin 2) = 0 ∧ win0_3.index t (1 : Fin 2) = 0 :=
  (by decide +kernel : ∀ t : Fin grid0.N, _)

/-- So what the body reads of it is the array. -/
theorem whole3 (t : Fin cfg0.N) : (iblk m c 3 t : FVec Ideal S512x8 .bf16) = (V m c main_cst_1 : FVec Ideal S512x8 .bf16) := by
  obtain ⟨e0, e1⟩ := index3 t
  funext j
  show (V m c main_cst_1 : FVec Ideal S512x8 .bf16) (((cfg0.win 3).blk t).view.emb j) = _
  refine congrArg (V m c main_cst_1 : FVec Ideal S512x8 .bf16) (funext fun a => Fin.ext ?_)
  match a with
  | ⟨0, _⟩ => show win0_3.index t (0 : Fin 2) * 512 + 1 * (j 0).val = (j 0).val; omega
  | ⟨1, _⟩ => show win0_3.index t (1 : Fin 2) * 8 + 1 * (j 1).val = (j 1).val; omega

/-- Window 4's block is the whole of its array at every grid point. -/
theorem index4 : ∀ t : Fin cfg0.N, win0_4.index t (0 : Fin 2) = 0 ∧ win0_4.index t (1 : Fin 2) = 0 :=
  (by decide +kernel : ∀ t : Fin grid0.N, _)

/-- So what the body reads of it is the array. -/
theorem whole4 (t : Fin cfg0.N) : (iblk m c 4 t : FVec Ideal S8x512 .bf16) = (V m c main_cst_2 : FVec Ideal S8x512 .bf16) := by
  obtain ⟨e0, e1⟩ := index4 t
  funext j
  show (V m c main_cst_2 : FVec Ideal S8x512 .bf16) (((cfg0.win 4).blk t).view.emb j) = _
  refine congrArg (V m c main_cst_2 : FVec Ideal S8x512 .bf16) (funext fun a => Fin.ext ?_)
  match a with
  | ⟨0, _⟩ => show win0_4.index t (0 : Fin 2) * 8 + 1 * (j 0).val = (j 0).val; omega
  | ⟨1, _⟩ => show win0_4.index t (1 : Fin 2) * 512 + 1 * (j 1).val = (j 1).val; omega

/-- Window 5's block is the whole of its array at every grid point. -/
theorem index5 : ∀ t : Fin cfg0.N, win0_5.index t (0 : Fin 2) = 0 ∧ win0_5.index t (1 : Fin 2) = 0 :=
  (by decide +kernel : ∀ t : Fin grid0.N, _)

/-- So what the body reads of it is the array. -/
theorem whole5 (t : Fin cfg0.N) : (iblk m c 5 t : FVec Ideal S2048x512 .f32) = (V m c main_v34 : FVec Ideal S2048x512 .f32) := by
  obtain ⟨e0, e1⟩ := index5 t
  funext j
  show (V m c main_v34 : FVec Ideal S2048x512 .f32) (((cfg0.win 5).blk t).view.emb j) = _
  refine congrArg (V m c main_v34 : FVec Ideal S2048x512 .f32) (funext fun a => Fin.ext ?_)
  match a with
  | ⟨0, _⟩ => show win0_5.index t (0 : Fin 2) * 2048 + 1 * (j 0).val = (j 0).val; omega
  | ⟨1, _⟩ => show win0_5.index t (1 : Fin 2) * 512 + 1 * (j 1).val = (j 1).val; omega

/-- Window 6's block is the whole of its array at every grid point. -/
theorem index6 : ∀ t : Fin cfg0.N, win0_6.index t (0 : Fin 2) = 0 ∧ win0_6.index t (1 : Fin 2) = 0 :=
  (by decide +kernel : ∀ t : Fin grid0.N, _)

/-- So what the body reads of it is the array. -/
theorem whole6 (t : Fin cfg0.N) : (iblk m c 6 t : FVec Ideal S2048x512 .f32) = (V m c main_v37 : FVec Ideal S2048x512 .f32) := by
  obtain ⟨e0, e1⟩ := index6 t
  funext j
  show (V m c main_v37 : FVec Ideal S2048x512 .f32) (((cfg0.win 6).blk t).view.emb j) = _
  refine congrArg (V m c main_v37 : FVec Ideal S2048x512 .f32) (funext fun a => Fin.ext ?_)
  match a with
  | ⟨0, _⟩ => show win0_6.index t (0 : Fin 2) * 2048 + 1 * (j 0).val = (j 0).val; omega
  | ⟨1, _⟩ => show win0_6.index t (1 : Fin 2) * 512 + 1 * (j 1).val = (j 1).val; omega

/-- Window 7's block is the whole of its array at every grid point. -/
theorem index7 : ∀ t : Fin cfg0.N, win0_7.index t (0 : Fin 2) = 0 ∧ win0_7.index t (1 : Fin 2) = 0 :=
  (by decide +kernel : ∀ t : Fin grid0.N, _)

/-- So what the body reads of it is the array. -/
theorem whole7 (t : Fin cfg0.N) : (iblk m c 7 t : FVec Ideal S8x512 .f32) = (V m c main_v54 : FVec Ideal S8x512 .f32) := by
  obtain ⟨e0, e1⟩ := index7 t
  funext j
  show (V m c main_v54 : FVec Ideal S8x512 .f32) (((cfg0.win 7).blk t).view.emb j) = _
  refine congrArg (V m c main_v54 : FVec Ideal S8x512 .f32) (funext fun a => Fin.ext ?_)
  match a with
  | ⟨0, _⟩ => show win0_7.index t (0 : Fin 2) * 8 + 1 * (j 0).val = (j 0).val; omega
  | ⟨1, _⟩ => show win0_7.index t (1 : Fin 2) * 512 + 1 * (j 1).val = (j 1).val; omega

/-- Window 8's block is the whole of its array at every grid point. -/
theorem index8 : ∀ t : Fin cfg0.N, win0_8.index t (0 : Fin 2) = 0 ∧ win0_8.index t (1 : Fin 2) = 0 :=
  (by decide +kernel : ∀ t : Fin grid0.N, _)

/-- So what the body reads of it is the array. -/
theorem whole8 (t : Fin cfg0.N) : (iblk m c 8 t : FVec Ideal S8x512 .f32) = (V m c main_v58 : FVec Ideal S8x512 .f32) := by
  obtain ⟨e0, e1⟩ := index8 t
  funext j
  show (V m c main_v58 : FVec Ideal S8x512 .f32) (((cfg0.win 8).blk t).view.emb j) = _
  refine congrArg (V m c main_v58 : FVec Ideal S8x512 .f32) (funext fun a => Fin.ext ?_)
  match a with
  | ⟨0, _⟩ => show win0_8.index t (0 : Fin 2) * 8 + 1 * (j 0).val = (j 0).val; omega
  | ⟨1, _⟩ => show win0_8.index t (1 : Fin 2) * 512 + 1 * (j 1).val = (j 1).val; omega

/-- What the body reads of `x`: the block's rows. -/
theorem block0 (t : Fin cfg0.N) (s : Fin 2048) (h : Fin 8) (d : Fin 64) :
    (iblk m c 0 t : FVec Ideal S1x2048x8x64 .f32) (ix4 0 s h d) = (m (c, Proc.tc.devRef main_arg0) : FVec Ideal S2x2048x16x64 .f32) (ix4 (batch t) s (head t h) d) := by
  show (V m c main_arg0 : FVec Ideal S2x2048x16x64 .f32) (((cfg0.win 0).blk t).view.emb (ix4 0 s h d : S1x2048x8x64.Idx)) = _
  rw [emb0, V_main_arg0]

/-- The word of one. -/
theorem one_word : FloatOps.ofBits (F := Ideal) FTy.f32 1065353216#32 = 1 := by pointwise

/-- What the result array holds at a grid point's block is what the point wrote back. -/
theorem array_block (t : Fin cfg0.N) (s : Fin 2048) (h : Fin 8) (d : Fin 64) :
    ((dats m 0 c).arrAt 9 cfg0.N : FVec Ideal S2x2048x16x64 .f32) (ix4 (batch t) s (head t h) d)
      = ((dats m 0 c).flushed 9 t : FVec Ideal S1x2048x8x64 .f32) (ix4 0 s h d) :=
  (congrArg ((dats m 0 c).arrAt 9 cfg0.N : FVec Ideal S2x2048x16x64 .f32) (emb9 t s h d)).symm.trans
    (congrFun (blocks9 m c t (flush0_9 t)) (ix4 0 s h d : S1x2048x8x64.Idx))

/-- What is written back of a block is the block: no edge is cut off. -/
theorem cut9 (t : Fin cfg0.N) (y : FVec Ideal S1x2048x8x64 .f32) :
    ((cfg0.win 9).cut (grid0.coords t) y : FVec Ideal S1x2048x8x64 .f32) = y := rfl

/-- What a grid point writes back, at an index of its block. -/
theorem point_apply
    (H : Tame (m (c, Proc.tc.devRef main_arg0) : FVec Ideal S2x2048x16x64 .f32)
      (m (c, Proc.tc.devRef main_arg1) : FVec Ideal S64x64 .f32)
      (m (c, Proc.tc.devRef main_arg2) : FVec Ideal S64 .f32)
      (m (c, Proc.tc.devRef main_arg3) : FVec Ideal S1 .f32))
    (t : Fin cfg0.N) (s : Fin 2048) (h : Fin 8) (d : Fin 64) :
    ((dats m 0 c).flushed 9 t : FVec Ideal S1x2048x8x64 .f32) (ix4 0 s h d)
      = ((result (m (c, Proc.tc.devRef main_arg0) : FVec Ideal S2x2048x16x64 .f32)
          (m (c, Proc.tc.devRef main_arg1) : FVec Ideal S64x64 .f32)
          (m (c, Proc.tc.devRef main_arg3) : FVec Ideal S1 .f32) (batch t) s (head t h) d : ℝ) : EReal) := by
  rw [flushed9_A, out_eq, whole1, whole2, whole3, whole4, whole5, whole6, whole7, whole8, cut9]
  exact block_apply (fun h' => rows (m (c, Proc.tc.devRef main_arg0) : FVec Ideal S2x2048x16x64 .f32) (batch t) (head t h'))
    (weights (m (c, Proc.tc.devRef main_arg1) : FVec Ideal S64x64 .f32)) (gate (m (c, Proc.tc.devRef main_arg3) : FVec Ideal S1 .f32)) (iblk m c 0 t) (V m c main_v67) (V m c main_cst_1)
    (FloatOps.ofBits (F := Ideal) FTy.f32 1065353216#32) ((V m c main_v68 : FVec Ideal S1x1 .f32) (ix2 0 0)) (V m c main_cst_2)
    (fun j : S1x512.Idx => (V m c main_v54 : FVec Ideal S8x512 .f32) (ix2 0 (j 1)))
    (fun j : S1x512.Idx => (V m c main_v58 : FVec Ideal S8x512 .f32) (ix2 0 (j 1))) (V m c main_v34) (V m c main_v37)
    (fun s h d => (block0 m c t s h d).trans (H.x_eq _ _ _ _))
    (fun h k h' d => V67 m c H.w_real h k h' d)
    (fun l h => Vc1 m c l h)
    (fun h i hi => H.step1 _ _ i hi)
    (fun h i hi => H.step2 _ _ i hi)
    one_word ((V68 m c).trans H.g_eq)
    (fun h l => Vc2 m c h l)
    (fun h d => V54 m c 0 h d) (fun h d => V58 m c 0 h d)
    (fun s h d => V34 m c s h d) (fun s h d => V37 m c s h d) s h d

/-- The result array after the run, at every index. -/
theorem array_apply
    (H : Tame (m (c, Proc.tc.devRef main_arg0) : FVec Ideal S2x2048x16x64 .f32)
      (m (c, Proc.tc.devRef main_arg1) : FVec Ideal S64x64 .f32)
      (m (c, Proc.tc.devRef main_arg2) : FVec Ideal S64 .f32)
      (m (c, Proc.tc.devRef main_arg3) : FVec Ideal S1 .f32))
    (b : Fin 2) (s : Fin 2048) (h : Fin 16) (d : Fin 64) :
    ((dats m 0 c).arrAt 9 cfg0.N : FVec Ideal S2x2048x16x64 .f32) (ix4 b s h d)
      = ((result (m (c, Proc.tc.devRef main_arg0) : FVec Ideal S2x2048x16x64 .f32)
          (m (c, Proc.tc.devRef main_arg1) : FVec Ideal S64x64 .f32)
          (m (c, Proc.tc.devRef main_arg3) : FVec Ideal S1 .f32) b s h d : ℝ) : EReal) := by
  have hN := points
  let t : Fin cfg0.N := ⟨b.val * 2 + h.val / 8, by omega⟩
  have hb : batch t = b := Fin.ext (by show (b.val * 2 + h.val / 8) / 2 = b.val; omega)
  have hh : head t ⟨h.val % 8, by omega⟩ = h :=
    Fin.ext (by show (b.val * 2 + h.val / 8) % 2 * 8 + h.val % 8 = h.val; omega)
  have e := (array_block m c t s ⟨h.val % 8, by omega⟩ d).trans (point_apply m c H t s _ d)
  rw [hb, hh] at e
  exact e

end Rope

end
-- ==== Proof.Pick.lean ====
/- The reference's two indexed operations, read at an index: the scores placed one position on, and a row of a table looked up. -/
module

public import proofs.«01_k».proof.Proof.Inputs
public import proofs.«01_k».proof.Proof.Gen.ReferenceIdeal
public import Idealize.ShloMosaic.Lib.Routing.OpsPair

@[expose] public section

noncomputable section

namespace Rope

open Idealize.ShloMosaic Cert.ReferenceIdeal Cert.ReferenceIdeal.Gen

/-- A fold that changes its value at no member of a list leaves it. -/
theorem fold_none {α ι : Type} (f : α → α → α) (P : ι → Prop) [DecidablePred P] (v : ι → α) (a : α) :
    ∀ l : List ι, (∀ n ∈ l, ¬ P n) → l.foldl (fun a n => if P n then f a (v n) else a) a = a := by
  intro l
  induction l with
  | nil => intro _; rfl
  | cons n l ih =>
    intro h
    rw [List.foldl_cons, if_neg (h n List.mem_cons_self)]
    exact ih fun k hk => h k (List.mem_cons_of_mem _ hk)

/-- A fold that changes its value at exactly one member of a list without repeats changes it once. -/
theorem fold_one {α ι : Type} (f : α → α → α) (P : ι → Prop) [DecidablePred P] (v : ι → α) (p : ι) (hp : ∀ n, P n ↔ n = p) (a : α) :
    ∀ l : List ι, l.Nodup → p ∈ l → l.foldl (fun a n => if P n then f a (v n) else a) a = f a (v p) := by
  intro l
  induction l with
  | nil => intro _ h; cases h
  | cons n l ih =>
    intro hn hm
    obtain ⟨h1, h2⟩ := List.nodup_cons.1 hn
    rw [List.foldl_cons]
    by_cases e : n = p
    · subst e
      rw [if_pos ((hp n).2 rfl)]
      exact fold_none f P v _ l fun k hk q => h1 (by rw [← (hp k).1 q]; exact hk)
    · rw [if_neg fun q => e ((hp n).1 q)]
      exact ih h2 ((List.mem_cons.1 hm).resolve_left fun q => e q.symm)

/-- Where an update lands: one position on. -/
theorem lands (idx : IVec S1 32) (hi : idx (ix1 0) = 1#32) (r R : Fin 32) (i : Fin 2046) (s : Fin 2048) :
    scatter_S32x2048_S1_S32x2046_01_n_1_0.resultIdx? (ix2 r i) idx = some (ix2 R s) ↔ r = R ∧ 1 + i.val = s.val := by
  have w0 : scatter_S32x2048_S1_S32x2046_01_n_1_0.window (ix2 r i) 0 = r.val := rfl
  have w1 : scatter_S32x2048_S1_S32x2046_01_n_1_0.window (ix2 r i) 1 = i.val := rfl
  have s0 : scatter_S32x2048_S1_S32x2046_01_n_1_0.start (ix2 r i) idx 0 = 0 := rfl
  have s1 : scatter_S32x2048_S1_S32x2046_01_n_1_0.start (ix2 r i) idx 1 = 1 := by
    have e : scatter_S32x2048_S1_S32x2046_01_n_1_0.start (ix2 r i) idx 1 = (idx (ix1 0)).toInt := by
      show (idx _).toInt = _
      congr 2
      funext a
      match a with
      | ⟨0, _⟩ => rfl
    rw [e, hi]; rfl
  rw [Routing.resultIdx?_eq_some]
  constructor
  · intro q
    have q0 := q 0
    have q1 := q 1
    rw [s0, w0] at q0
    rw [s1, w1] at q1
    replace q0 : (0 : Int) + (r.val : Int) = (R.val : Int) := q0
    replace q1 : (1 : Int) + (i.val : Int) = (s.val : Int) := q1
    exact ⟨Fin.ext (by omega), by omega⟩
  · rintro ⟨a, b⟩ k
    subst a
    match k with
    | ⟨0, _⟩ =>
      refine (congrArg₂ (fun (x : Int) (y : ℕ) => x + (y : Int)) s0 w0).trans ?_
      show (0 : Int) + (r.val : Int) = (r.val : Int); omega
    | ⟨1, _⟩ =>
      refine (congrArg₂ (fun (x : Int) (y : ℕ) => x + (y : Int)) s1 w1).trans ?_
      show (1 : Int) + (i.val : Int) = (s.val : Int); omega

/-- The scores placed one position on: the array it starts from outside, and that plus a score within. -/
theorem placed (x : FVec Ideal S32x2048 .f32) (idx : IVec S1 32) (u : FVec Ideal S32x2046 .f32) (hi : idx (ix1 0) = 1#32)
    (r : Fin 32) (s : Fin 2048) :
    Host.scatter scatter_S32x2048_S1_S32x2046_01_n_1_0 (FloatOps.addf (F := Ideal)) x idx u (ix2 r s)
      = if h : 1 ≤ s.val ∧ s.val - 1 < 2046 then (x (ix2 r s) + u (ix2 r ⟨s.val - 1, h.2⟩) : EReal) else x (ix2 r s) := by
  rw [Routing.scatter_at]
  split
  · next h =>
    refine fold_one (FloatOps.addf (F := Ideal)) _ _ (S32x2046.rowMajor (ix2 r ⟨s.val - 1, h.2⟩)) ?_ _ _ (List.nodup_finRange _)
      (List.mem_finRange _) |>.trans ?_
    · intro n
      generalize hn : S32x2046.rowMajor.symm n = j
      obtain ⟨r', i, rfl⟩ : ∃ r' i, j = ix2 r' i := ⟨j 0, j 1, by funext a; match a with | ⟨0, _⟩ => rfl | ⟨1, _⟩ => rfl⟩
      rw [lands idx hi, ← Equiv.symm_apply_eq, hn]
      constructor
      · rintro ⟨a, b⟩
        subst a
        rw [show i = ⟨s.val - 1, h.2⟩ from Fin.ext (by show i.val = s.val - 1; omega)]
      · intro e
        have e0 : r' = r := congrFun e 0
        have e1 : i = ⟨s.val - 1, h.2⟩ := congrFun e 1
        refine ⟨e0, ?_⟩
        rw [e1]; show 1 + (s.val - 1) = s.val; omega
    · rw [Equiv.symm_apply_apply]; rfl
  · next h =>
    refine fold_none _ _ _ _ _ ?_
    intro n _
    generalize S32x2046.rowMajor.symm n = j
    obtain ⟨r', i, rfl⟩ : ∃ r' i, j = ix2 r' i := ⟨j 0, j 1, by funext a; match a with | ⟨0, _⟩ => rfl | ⟨1, _⟩ => rfl⟩
    rw [lands idx hi]
    rintro ⟨_, b⟩
    exact h ⟨by omega, by have := i.isLt; omega⟩

/-- The row of a table that an index word names, when it is in range. -/
theorem looked_up (t : FVec Ideal S2048x32 .f32) (idx : IVec S2x2048x16x1 32) (b : Fin 2) (s : Fin 2048) (h : Fin 16) (j : Fin 32)
    (n : Fin 2048) (hn : (idx (ix4 b s h 0)).toInt = (n.val : Int)) :
    Host.gather gather_S2048x32_S2x2048x16x1_S2x2048x16x32_3_0_n_n_0_3_132 t idx (ix4 b s h j) = t (ix2 n j) := by
  unfold Host.gather
  congr 1
  funext a
  apply Fin.ext
  match a with
  | ⟨0, _⟩ =>
    show min (idx _).toInt.toNat (2048 - 1) + 0 + 0 = n.val
    have e : gather_S2048x32_S2x2048x16x1_S2x2048x16x32_3_0_n_n_0_3_132.siIdx (ix4 b s h j) ⟨0, by decide⟩ = ix4 b s h 0 := by
      funext a
      match a with
      | ⟨0, _⟩ => rfl
      | ⟨1, _⟩ => rfl
      | ⟨2, _⟩ => rfl
      | ⟨3, _⟩ => rfl
    have e' : (idx (gather_S2048x32_S2x2048x16x1_S2x2048x16x32_3_0_n_n_0_3_132.siIdx (ix4 b s h j) ⟨0, by decide⟩)).toInt = (n.val : Int) := by
      rw [e, hn]
    have := n.isLt
    refine (congrArg (fun z : Int => min z.toNat (2048 - 1) + 0 + 0) e').trans ?_
    simp only [Int.toNat_natCast]
    omega
  | ⟨1, _⟩ => show 0 + 0 + j.val = j.val; omega

end Rope

end
-- ==== Proof.RefScore.lean ====
/- What the reference computes of the contents: the distances between neighbouring positions, and the scores. -/
module

public import proofs.«01_k».proof.Proof.Pick
public import proofs.«01_k».proof.Proof.Literals
public import proofs.«01_k».proof.Proof.Gen.ReferenceIdeal.Run

@[expose] public section

noncomputable section

namespace Rope

open Idealize.ShloMosaic Idealize.ShloMosaic.TcCoe Idealize.SL.Sem Idealize.ShloMosaic.StableHlo Cert.ReferenceIdeal
open Cert.ReferenceIdeal.Gen Cert.ReferenceIdeal.Value

/-- The batch of a row of heads. -/
def rowBatch (r : Fin 32) : Fin 2 := ⟨r.val / 16, by omega⟩

/-- The head of a row of heads. -/
def rowHead (r : Fin 32) : Fin 16 := ⟨r.val % 16, by omega⟩

variable (V : Valuation τ sig (Elt Ideal))

/-- The first argument. -/
abbrev argX : FVec Ideal S2x2048x16x64 .f32 := V (Proc.devRef .tc main_arg0)
/-- The second argument. -/
abbrev argW : FVec Ideal S64x64 .f32 := V (Proc.devRef .tc main_arg1)
/-- The third argument. -/
abbrev argB : FVec Ideal S64 .f32 := V (Proc.devRef .tc main_arg2)
/-- The fourth argument. -/
abbrev argG : FVec Ideal S1 .f32 := V (Proc.devRef .tc main_arg3)

/-- The content of a row of heads. -/
abbrev rowContent (r : Fin 32) : ℕ → Fin 64 → ℝ := contents (argX V) (argW V) (rowBatch r) (rowHead r)

/-- The bias, as real numbers. -/
def bias (d : Fin 64) : ℝ := (argB V (ix1 d)).toReal

variable {V} (H : Tame (argX V) (argW V) (argB V) (argG V))
include H

/-- The reference's content is the content, moved by the bias. -/
theorem ref_content (r : Fin 32) (s : Fin 2048) (d : Fin 64) :
    (res_main_v25 V : FVec Ideal S32x2048x64 .f32) (ix3 r s d) = ((rowContent V r s.val d + bias V d : ℝ) : EReal) := by
  have hx : ∀ k : Fin 64, argX V (ix4 (rowBatch r) s (rowHead r) k) = ((rows (argX V) (rowBatch r) (rowHead r) s.val k.val : ℝ) : EReal) :=
    fun k => H.x_eq _ _ _ _
  have hw : ∀ k : Fin 64, argW V (ix2 d k) = ((weights (argW V) d k : ℝ) : EReal) := fun k => H.w_eq _ _
  have hb : argB V (ix1 d) = ((bias V d : ℝ) : EReal) := (H.b_real d).symm
  unfold res_main_v25
  pointwise [dot_S32x2048x64_S64x64_S32x2048x64_2_0_01_1_n_n]
  change ∑ k, argX V (ix4 (rowBatch r) s (rowHead r) k) * argW V (ix2 d k) + argB V (ix1 d) = _
  simp only [hx, hw, hb, coe_mul, coe_sum, coe_add]
  rfl

/-- The length of one step. -/
theorem ref_step1 (r : Fin 32) (i : Fin 2047) :
    (res_main_v29 V : FVec Ideal S32x2047 .f32) (ix2 r i) = ((√(gap1 (rowContent V r) i.val) : ℝ) : EReal) := by
  rw [← coe_sqrt _ (gap1_nonneg _ _)]
  unfold res_main_v29 res_main_v28
  pointwise
  simp only [ref_content H, coe_sub, coe_mul, coe_sum]
  congr 2
  refine Finset.sum_congr rfl fun d _ => ?_
  rw [add_comm i.val 1]
  ring

/-- The length of a step of two. -/
theorem ref_step2 (r : Fin 32) (i : Fin 2046) :
    (res_main_v33 V : FVec Ideal S32x2046 .f32) (ix2 r i) = ((√(gap2 (rowContent V r) i.val) : ℝ) : EReal) := by
  rw [← coe_sqrt _ (gap2_nonneg _ _)]
  unfold res_main_v33 res_main_v32
  pointwise
  simp only [ref_content H, coe_sub, coe_mul, coe_sum]
  congr 2
  refine Finset.sum_congr rfl fun d _ => ?_
  rw [add_comm i.val 2]
  ring

omit H in
variable (V) in
/-- The reference's scores, of the lengths it computes. -/
def refScores : FVec Ideal S32x2046 .f32 :=
  maximumf (subf (broadcastInDim S32x2046 ![] Facts₀.bcast_S_S32x2046 (constant S_ .f32 0x3F800000#32))
    (Host.divf (subf (addf (extractStridedSlice S32x2046 ![0, 0] (res_main_v29 V : FVec Ideal S32x2047 .f32) Facts₀.slices_S32x2047_S32x2046_0_0)
        (extractStridedSlice S32x2046 ![0, 1] (res_main_v29 V : FVec Ideal S32x2047 .f32) Facts₀.slices_S32x2047_S32x2046_0_1))
        (res_main_v33 V : FVec Ideal S32x2046 .f32))
      (maximumf (broadcastInDim S32x2046 ![] Facts₀.bcast_S_S32x2046 (id (constant S_ .f32 0x358637BD#32))) (res_main_v33 V : FVec Ideal S32x2046 .f32))))
    (broadcastInDim S32x2046 ![] Facts₀.bcast_S_S32x2046 (constant S_ .f32 0x00000000#32))

/-- They are the scores. -/
theorem refScores_apply (r : Fin 32) (i : Fin 2046) : refScores V (ix2 r i) = ((score (rowContent V r) i.val : ℝ) : EReal) := by
  have hc : max clip √(gap2 (rowContent V r) i.val) ≠ 0 := (lt_of_lt_of_le clip_pos (le_max_left _ _)).ne'
  unfold refScores
  pointwise [id]
  simp only [ref_step1 H, ref_step2 H, word_clip, coe_add, coe_sub, coe_max, coe_div _ _ hc, coe_one_sub, coe_max_zero]
  rw [add_comm 1 i.val]
  rfl

omit H in
variable (V) in
/-- The scores placed one position on, in an array of zeros. -/
def refPlaced : FVec Ideal S32x2048 .f32 :=
  Host.scatter scatter_S32x2048_S1_S32x2046_01_n_1_0 (FloatOps.addf (F := Ideal))
    (broadcastInDim S32x2048 ![] Facts₀.bcast_S_S32x2048 (constant S_ .f32 0x00000000#32))
    (broadcastInDim S1 ![] Facts₀.bcast_S_S1 (constantI S_ 32 1#32)) (refScores V)

/-- They are the scores, and zero at the first and the last position. -/
theorem refPlaced_apply (r : Fin 32) (s : Fin 2048) :
    refPlaced V (ix2 r s) = ((if s.val = 0 ∨ 2047 ≤ s.val then 0 else score (rowContent V r) (s.val - 1) : ℝ) : EReal) := by
  have z : (broadcastInDim S32x2048 ![] Facts₀.bcast_S_S32x2048 (constant S_ .f32 0x00000000#32) : FVec Ideal S32x2048 .f32) (ix2 r s) = 0 := by
    pointwise
  unfold refPlaced
  rw [placed _ _ _ (by pointwise), z]
  split
  · next q =>
    rw [if_neg (by omega), refScores_apply H, zero_add]
  · next q =>
    rw [if_pos (by omega), EReal.coe_zero]

/-- Where the reference places a position: the moved position, clipped. -/
theorem ref_place (b : Fin 2) (s : Fin 2048) (h : Fin 16) :
    (res_main_v61 V : FVec Ideal S2x2048x16 .f32) (ix3 b s h)
      = ((place (contents (argX V) (argW V) b h) (gate (argG V)) s.val : ℝ) : EReal) := by
  have hr : rowContent V ⟨b.val * 16 + h.val, by omega⟩ = contents (argX V) (argW V) b h := by
    have e1 : rowBatch ⟨b.val * 16 + h.val, by omega⟩ = b := Fin.ext (by show (b.val * 16 + h.val) / 16 = b.val; omega)
    have e2 : rowHead ⟨b.val * 16 + h.val, by omega⟩ = h := Fin.ext (by show (b.val * 16 + h.val) % 16 = h.val; omega)
    unfold rowContent
    rw [e1, e2]
  have z : Ideal.ofBits FTy.f32 0x00000000#32 = ((0 : ℝ) : EReal) := by rw [EReal.coe_zero]; pointwise
  have last : (FloatOps.sitofp FTy.f32 2047#32 : Ideal .f32) = ((2047 : ℝ) : EReal) := by
    have := coe_sitofp 2047 (by norm_num)
    simpa using this
  have hs := s.isLt
  unfold res_main_v61
  pointwise
  change min (FloatOps.sitofp FTy.f32 2047#32 : Ideal .f32) (max (Ideal.ofBits FTy.f32 0x00000000#32)
    ((FloatOps.sitofp FTy.f32 (BitVec.ofNat 32 s.val) : Ideal .f32)
      + argG V (ix1 0) * (Ideal.div (refPlaced V (ix2 ⟨b.val * 16 + h.val, by omega⟩ s)) (Ideal.ofBits FTy.f32 0x44FFC000#32)
          - Ideal.ofBits FTy.f32 0x3F000000#32) * Ideal.ofBits FTy.f32 0x3DCCCCCD#32)) = _
  rw [refPlaced_apply H, hr, last, z, H.g_eq, word_count, word_half, word_tenth, coe_sitofp s.val (by omega),
    coe_div _ _ (by norm_num)]
  simp only [coe_sub, coe_mul, coe_add, coe_max, coe_min]
  congr 1
  unfold place adjust betw
  split
  · simp
  · rfl

end Rope

end
-- ==== Proof.RefLookup.lean ====
/- The reference's rotation: the two neighbouring rows of the tables looked up at the moved position, and the result. -/
module

public import proofs.«01_k».proof.Proof.RefScore
public import Idealize.ShloMosaic.Lib.ReduceAll
public import Idealize.ShloMosaic.Lib.Affine

@[expose] public section

noncomputable section

namespace Rope

open Idealize.ShloMosaic Idealize.ShloMosaic.TcCoe Idealize.SL.Sem Idealize.ShloMosaic.StableHlo Cert.ReferenceIdeal
open Cert.ReferenceIdeal.Gen Cert.ReferenceIdeal.Value

/-- The word of an integer in range, read signed. -/
theorem toInt_word (z : ℤ) (h0 : 0 ≤ z) (h1 : z ≤ 2047) : (BitVec.ofInt 32 z).toInt = z := by
  rw [BitVec.toInt_ofInt]
  unfold Int.bmod
  norm_num
  omega

/-- A whole number in range, converted to a word. -/
theorem word_of_whole (z : ℤ) (h0 : 0 ≤ z) (h1 : z ≤ 2047) :
    ((FloatOps.fptosi (F := Ideal) (φ := .f32) 32 (((z : ℝ) : EReal) : Ideal .f32) : BitVec 32)).toInt = z := by
  show (BitVec.ofInt 32 (Ideal.toIntClamped _ _ (((z : ℝ) : EReal)))).toInt = z
  rw [Ideal.toIntClamped_coe, if_pos (by exact_mod_cast h0), Int.floor_intCast]
  rw [toInt_word]
  · norm_num; omega
  · norm_num; omega
  · norm_num; omega

/-- The rows of a table that the index words name; a mark where a word is out of range. -/
def refTake (t : FVec Ideal S2048x32 .f32) (idx : IVec S2x2048x16x1 32) : FVec Ideal S2x2048x16x32 .f32 :=
  select (broadcastInDim S2x2048x16x32 ![0, 1, 2] Facts₀.bcast_S2x2048x16_S2x2048x16x32_0_1_2
    (Host.reduce IntOp.andi
      (andi (cmpi .sge idx (broadcastInDim S2x2048x16x1 ![] Facts₀.bcast_S_S2x2048x16x1 (constantI S_ 32 0#32)))
        (cmpi .sle idx (broadcastInDim S2x2048x16x1 ![0, 1, 2, 3] Facts₀.bcast_S1x1x1x1_S2x2048x16x1_0_1_2_3
          (broadcastInDim S1x1x1x1 ![3] Facts₀.bcast_S1_S1x1x1x1_3 (constantI S1 32 2047#32)))))
      (constantI S_ 1 1#1) Facts₀.reducesTo_S2x2048x16x1_S2x2048x16_d3 Facts₀.h_S_))
    (Host.gather gather_S2048x32_S2x2048x16x1_S2x2048x16x32_3_0_n_n_0_3_132 t idx)
    (broadcastInDim S2x2048x16x32 ![] Facts₀.bcast_S_S2x2048x16x32 (constant S_ .f32 0x7FC00000#32))

/-- Where every index word is in range, the row it names. -/
theorem refTake_apply (t : FVec Ideal S2048x32 .f32) (idx : IVec S2x2048x16x1 32)
    (hi : ∀ b s h, 0 ≤ (idx (ix4 b s h 0)).toInt ∧ (idx (ix4 b s h 0)).toInt ≤ 2047)
    (b : Fin 2) (s : Fin 2048) (h : Fin 16) (j : Fin 32) (n : Fin 2048) (hn : (idx (ix4 b s h 0)).toInt = (n.val : Int)) :
    refTake t idx (ix4 b s h j) = t (ix2 n j) := by
  rw [← looked_up t idx b s h j n hn]
  obtain ⟨h0, h1⟩ := hi b s h
  have e0 : IntOp.cmpi .sge (idx (ix4 b s h 0)) 0#32 = 1#1 := by
    simp [IntOp.cmpi, BitVec.sle, h0]
  have e1 : IntOp.cmpi .sle (idx (ix4 b s h 0)) 2047#32 = 1#1 := by
    simp [IntOp.cmpi, BitVec.sle, h1]
  unfold refTake
  pointwise
  rw [Finset.univ_unique, Finset.fold_singleton]
  show Scalar.select (IntOp.andi (IntOp.andi (IntOp.cmpi .sge (idx (ix4 b s h 0)) 0#32)
    (IntOp.cmpi .sle (idx (ix4 b s h 0)) 2047#32)) 1#1) _ _ = _
  rw [e0, e1]
  rfl

variable {V : Valuation τ sig (Elt Ideal)} (H : Tame (argX V) (argW V) (argB V) (argG V))
include H

omit H in
/-- The reference's table of angles. -/
theorem ref_angle (s : Fin 2048) (j : Fin 32) :
    (res_main_v16 V : FVec Ideal S2048x32 .f32) (ix2 s j) = ((((s.val : ℕ) : ℝ) * theta j.val : ℝ) : EReal) := by
  have hs := s.isLt
  have hj := j.isLt
  unfold res_main_v16
  pointwise
  rw [word_angle j.val (by omega), coe_sitofp s.val (by omega), coe_mul]

omit H in
/-- The reference's table of cosines. -/
theorem ref_cos (s : Fin 2048) (j : Fin 32) :
    (res_main_v17 V : FVec Ideal S2048x32 .f32) (ix2 s j) = ((Real.cos (((s.val : ℕ) : ℝ) * theta j.val) : ℝ) : EReal) := by
  unfold res_main_v17
  pointwise
  rw [ref_angle]
  rfl

omit H in
/-- The reference's table of sines. -/
theorem ref_sin (s : Fin 2048) (j : Fin 32) :
    (res_main_v18 V : FVec Ideal S2048x32 .f32) (ix2 s j) = ((Real.sin (((s.val : ℕ) : ℝ) * theta j.val) : ℝ) : EReal) := by
  unfold res_main_v18
  pointwise
  rw [ref_angle]
  rfl

omit H in
/-- The moved position's whole parts are in range. -/
theorem whole_bounds (c : ℕ → Fin 64 → ℝ) (g : ℝ) (s : ℕ) :
    (0 ≤ ⌊place c g s⌋ ∧ ⌊place c g s⌋ ≤ 2047) ∧ (0 ≤ ⌈place c g s⌉ ∧ ⌈place c g s⌉ ≤ 2047) := by
  obtain ⟨h0, h1⟩ := place_bounds c g s
  refine ⟨⟨Int.floor_nonneg.2 h0, ?_⟩, Int.ceil_nonneg h0, Int.ceil_le.2 (by exact_mod_cast h1)⟩
  have := Int.floor_le (place c g s)
  exact_mod_cast this.trans h1

/-- The position below the moved one. -/
theorem ref_floor (b : Fin 2) (s : Fin 2048) (h : Fin 16) :
    ((res_main_v63 V : IVec S2x2048x16 32) (ix3 b s h)).toInt = ⌊place (contents (argX V) (argW V) b h) (gate (argG V)) s.val⌋ := by
  unfold res_main_v63
  pointwise
  rw [ref_place H, Ideal.liftRound_coe]
  exact word_of_whole _ (whole_bounds _ _ _).1.1 (whole_bounds _ _ _).1.2

/-- The position above the moved one. -/
theorem ref_ceil (b : Fin 2) (s : Fin 2048) (h : Fin 16) :
    ((res_main_v65 V : IVec S2x2048x16 32) (ix3 b s h)).toInt = ⌈place (contents (argX V) (argW V) b h) (gate (argG V)) s.val⌉ := by
  unfold res_main_v65
  pointwise
  rw [ref_place H, Ideal.liftRound_coe]
  exact word_of_whole _ (whole_bounds _ _ _).2.1 (whole_bounds _ _ _).2.2

omit H in
/-- A word that is not negative is not wrapped round. -/
theorem not_wrapped (x a : BitVec 32) (h : 0 ≤ x.toInt) : Scalar.select (IntOp.cmpi .slt x 0#32) a x = x := by
  refine Routing.wrap_of_lt x a ?_
  rw [BitVec.toInt_eq_toNat_cond] at h
  have := x.isLt
  split_ifs at h <;> omega

/-- The index words of the lower rows, for the cosines. -/
theorem ref_low (b : Fin 2) (s : Fin 2048) (h : Fin 16) :
    ((res_main_call5_v5 V : IVec S2x2048x16x1 32) (ix4 b s h 0)).toInt = ⌊place (contents (argX V) (argW V) b h) (gate (argG V)) s.val⌋ := by
  unfold res_main_call5_v5
  pointwise
  rw [not_wrapped _ _ (by rw [ref_floor H]; exact (whole_bounds _ _ _).1.1), ref_floor H]

/-- The index words of the upper rows, for the cosines. -/
theorem ref_high (b : Fin 2) (s : Fin 2048) (h : Fin 16) :
    ((res_main_call6_v5 V : IVec S2x2048x16x1 32) (ix4 b s h 0)).toInt = ⌈place (contents (argX V) (argW V) b h) (gate (argG V)) s.val⌉ := by
  unfold res_main_call6_v5
  pointwise
  rw [not_wrapped _ _ (by rw [ref_ceil H]; exact (whole_bounds _ _ _).2.1), ref_ceil H]

omit H in
/-- The sines look up the same lower rows. -/
theorem low_again : res_main_call7_v5 V = res_main_call5_v5 V := rfl

omit H in
/-- The sines look up the same upper rows. -/
theorem high_again : res_main_call8_v5 V = res_main_call6_v5 V := rfl

/-- The share of the upper row. -/
theorem ref_share (b : Fin 2) (s : Fin 2048) (h : Fin 16) :
    (res_main_v68 V : FVec Ideal S2x2048x16x1 .f32) (ix4 b s h 0)
      = ((place (contents (argX V) (argW V) b h) (gate (argG V)) s.val
          - (⌊place (contents (argX V) (argW V) b h) (gate (argG V)) s.val⌋ : ℝ) : ℝ) : EReal) := by
  unfold res_main_v68
  pointwise
  rw [ref_place H]
  have e : (FloatOps.sitofp (F := Ideal) .f32 ((res_main_v63 V : IVec S2x2048x16 32) (ix3 b s h)) : Ideal .f32)
      = (((⌊place (contents (argX V) (argW V) b h) (gate (argG V)) s.val⌋ : ℝ)) : EReal) := by
    rw [← ref_floor H]
    rfl
  rw [e]
  exact coe_sub _ _

omit H in
/-- A row of cosines taken at index words that hold whole numbers in range. -/
theorem take_cos (idx : IVec S2x2048x16x1 32) (z : Fin 2 → Fin 2048 → Fin 16 → ℤ)
    (hz : ∀ b s h, (idx (ix4 b s h 0)).toInt = z b s h) (hb : ∀ b s h, 0 ≤ z b s h ∧ z b s h ≤ 2047)
    (b : Fin 2) (s : Fin 2048) (h : Fin 16) (j : Fin 32) :
    refTake (res_main_v17 V) idx (ix4 b s h j) = ((Real.cos ((z b s h : ℝ) * theta j.val) : ℝ) : EReal) := by
  have h0 := hb b s h
  obtain ⟨n, hn⟩ := Int.eq_ofNat_of_zero_le h0.1
  have hl : n < 2048 := by omega
  rw [refTake_apply _ idx (fun b s h => by rw [hz]; exact hb b s h) b s h j ⟨n, hl⟩ (by rw [hz, hn]), ref_cos, hn]
  simp

omit H in
/-- A row of sines taken at index words that hold whole numbers in range. -/
theorem take_sin (idx : IVec S2x2048x16x1 32) (z : Fin 2 → Fin 2048 → Fin 16 → ℤ)
    (hz : ∀ b s h, (idx (ix4 b s h 0)).toInt = z b s h) (hb : ∀ b s h, 0 ≤ z b s h ∧ z b s h ≤ 2047)
    (b : Fin 2) (s : Fin 2048) (h : Fin 16) (j : Fin 32) :
    refTake (res_main_v18 V) idx (ix4 b s h j) = ((Real.sin ((z b s h : ℝ) * theta j.val) : ℝ) : EReal) := by
  have h0 := hb b s h
  obtain ⟨n, hn⟩ := Int.eq_ofNat_of_zero_le h0.1
  have hl : n < 2048 := by omega
  rw [refTake_apply _ idx (fun b s h => by rw [hz]; exact hb b s h) b s h j ⟨n, hl⟩ (by rw [hz, hn]), ref_sin, hn]
  simp

/-- Two rows mixed by the share of the upper one. -/
def refMix (p : FVec Ideal S2x2048x16x1 .f32) (lo hi : FVec Ideal S2x2048x16x32 .f32) : FVec Ideal S2x2048x16x32 .f32 :=
  addf (mulf (broadcastInDim S2x2048x16x32 ![0, 1, 2, 3] Facts₀.bcast_S2x2048x16x1_S2x2048x16x32_0_1_2_3
      (subf (broadcastInDim S2x2048x16x1 ![] Facts₀.bcast_S_S2x2048x16x1 (constant S_ .f32 0x3F800000#32)) p)) lo)
    (mulf (broadcastInDim S2x2048x16x32 ![0, 1, 2, 3] Facts₀.bcast_S2x2048x16x1_S2x2048x16x32_0_1_2_3 p) hi)

omit H in
/-- The mix, lane by lane. -/
theorem refMix_apply (p : FVec Ideal S2x2048x16x1 .f32) (lo hi : FVec Ideal S2x2048x16x32 .f32)
    (b : Fin 2) (s : Fin 2048) (h : Fin 16) (j : Fin 32) (r y z : ℝ)
    (hr : p (ix4 b s h 0) = (r : EReal)) (hy : lo (ix4 b s h j) = (y : EReal)) (hz : hi (ix4 b s h j) = (z : EReal)) :
    refMix p lo hi (ix4 b s h j) = (((1 - r) * y + r * z : ℝ) : EReal) := by
  unfold refMix
  pointwise
  rw [hr, hy, hz]
  simp only [coe_one_sub, coe_mul, coe_add]

omit H in
/-- The mixed cosines as a mix of looked-up rows. -/
theorem mixed_cos : res_main_v79 V
    = refMix (res_main_v68 V) (refTake (res_main_v17 V) (res_main_call5_v5 V)) (refTake (res_main_v17 V) (res_main_call6_v5 V)) := rfl

omit H in
/-- The mixed sines as a mix of looked-up rows. -/
theorem mixed_sin : res_main_v86 V
    = refMix (res_main_v68 V) (refTake (res_main_v18 V) (res_main_call5_v5 V)) (refTake (res_main_v18 V) (res_main_call6_v5 V)) := rfl

/-- The mixed cosines. -/
theorem ref_cosAt (b : Fin 2) (s : Fin 2048) (h : Fin 16) (j : Fin 32) :
    (res_main_v79 V : FVec Ideal S2x2048x16x32 .f32) (ix4 b s h j)
      = ((cosAt (contents (argX V) (argW V) b h) (gate (argG V)) s.val j.val : ℝ) : EReal) := by
  rw [mixed_cos, refMix_apply _ _ _ b s h j _ _ _ (ref_share H b s h)
    (take_cos _ _ (ref_low H) (fun b s h => (whole_bounds _ _ _).1) b s h j)
    (take_cos _ _ (ref_high H) (fun b s h => (whole_bounds _ _ _).2) b s h j)]
  rw [interpolate (contents (argX V) (argW V) b h) (gate (argG V)) H.g_nonneg H.g_le s.val s.isLt
    (fun z => Real.cos ((z : ℝ) * theta j.val))]
  simp [cosAt]

/-- The mixed sines. -/
theorem ref_sinAt (b : Fin 2) (s : Fin 2048) (h : Fin 16) (j : Fin 32) :
    (res_main_v86 V : FVec Ideal S2x2048x16x32 .f32) (ix4 b s h j)
      = ((sinAt (contents (argX V) (argW V) b h) (gate (argG V)) s.val j.val : ℝ) : EReal) := by
  rw [mixed_sin, refMix_apply _ _ _ b s h j _ _ _ (ref_share H b s h)
    (take_sin _ _ (ref_low H) (fun b s h => (whole_bounds _ _ _).1) b s h j)
    (take_sin _ _ (ref_high H) (fun b s h => (whole_bounds _ _ _).2) b s h j)]
  rw [interpolate (contents (argX V) (argW V) b h) (gate (argG V)) H.g_nonneg H.g_le s.val s.isLt
    (fun z => Real.sin ((z : ℝ) * theta j.val))]
  simp [sinAt]

end Rope

end
-- ==== Proof.RefResult.lean ====
/- The reference's result, at every index: the row rotated at its moved position. -/
module

public import proofs.«01_k».proof.Proof.RefLookup

@[expose] public section

noncomputable section

namespace Rope

open Idealize.ShloMosaic Idealize.ShloMosaic.TcCoe Idealize.SL.Sem Idealize.ShloMosaic.StableHlo Cert.ReferenceIdeal
open Cert.ReferenceIdeal.Gen Cert.ReferenceIdeal.Value

/-- The reference's result as its last operations make it: the two turned lanes of every pair, laid side by side. -/
def refOut (V : Valuation τ sig (Elt Ideal)) : FVec Ideal S2x2048x16x64 .f32 :=
  shapeCast S2x2048x16x64 (concatenate S2x2048x16x32x2 4
    [⟨S2x2048x16x32x1, (broadcastInDim S2x2048x16x32x1 ![0, 1, 2, 3] bcast_S2x2048x16x32_S2x2048x16x32x1_0_1_2_3
        (subf (mulf (res_main_v87 V) (res_main_v79 V)) (mulf (res_main_v88 V) (res_main_v86 V))))⟩,
      ⟨S2x2048x16x32x1, (broadcastInDim S2x2048x16x32x1 ![0, 1, 2, 3] bcast_S2x2048x16x32_S2x2048x16x32x1_0_1_2_3
        (addf (mulf (res_main_v88 V) (res_main_v79 V)) (mulf (res_main_v87 V) (res_main_v86 V))))⟩]
    concatenates_S2x2048x16x32x1_S2x2048x16x32x1_S2x2048x16x32x2_d4) shapeCasts_S2x2048x16x32x2_S2x2048x16x64

variable {V : Valuation τ sig (Elt Ideal)} (H : Tame (argX V) (argW V) (argB V) (argG V))
include H

/-- The even lanes of `x`. -/
theorem ref_even (b : Fin 2) (s : Fin 2048) (h : Fin 16) (j : Fin 32) :
    (res_main_v87 V : FVec Ideal S2x2048x16x32 .f32) (ix4 b s h j) = ((rows (argX V) b h s.val (2 * j.val) : ℝ) : EReal) := by
  have hj : 2 * j.val < 64 := by omega
  rw [show rows (argX V) b h s.val (2 * j.val) = _ from rows_eq (argX V) b s h ⟨2 * j.val, hj⟩, H.x_real]
  unfold res_main_v87
  pointwise

/-- The odd lanes of `x`. -/
theorem ref_odd (b : Fin 2) (s : Fin 2048) (h : Fin 16) (j : Fin 32) :
    (res_main_v88 V : FVec Ideal S2x2048x16x32 .f32) (ix4 b s h j) = ((rows (argX V) b h s.val (2 * j.val + 1) : ℝ) : EReal) := by
  have hj : 2 * j.val + 1 < 64 := by omega
  rw [show rows (argX V) b h s.val (2 * j.val + 1) = _ from rows_eq (argX V) b s h ⟨2 * j.val + 1, hj⟩, H.x_real]
  unfold res_main_v88
  pointwise
  exact congrArg (fun k => argX V (ix4 b s h k)) (Fin.ext (Nat.add_comm 1 (2 * j.val)))

/-- The reference's result, index by index. -/
theorem ref_result (b : Fin 2) (s : Fin 2048) (h : Fin 16) (d : Fin 64) :
    refOut V (ix4 b s h d) = ((result (argX V) (argW V) (argG V) b s h d : ℝ) : EReal) := by
  have hd := d.isLt
  unfold refOut
  pointwise
  have f0 := ref_even H b s h ⟨d.val / 2, by omega⟩
  have f1 := ref_odd H b s h ⟨d.val / 2, by omega⟩
  have f2 := ref_cosAt H b s h ⟨d.val / 2, by omega⟩
  have f3 := ref_sinAt H b s h ⟨d.val / 2, by omega⟩
  unfold result rotated
  by_cases e : d.val % 2 = 0
  · have e2 : 2 * (d.val / 2) = d.val := by omega
    refine (dif_pos (by omega)).trans ?_
    refine (congrArg₂ (fun p q : EReal => p - q) (congrArg₂ (fun p q : EReal => p * q) f0 f2)
      (congrArg₂ (fun p q : EReal => p * q) f1 f3)).trans ?_
    rw [if_pos e]
    simp only [e2, coe_mul, coe_sub]
  · have e2 : 2 * (d.val / 2) = d.val - 1 := by omega
    have e3 : d.val - 1 + 1 = d.val := by omega
    refine (dif_neg (by omega)).trans ?_
    refine (congrArg₂ (fun p q : EReal => p + q) (congrArg₂ (fun p q : EReal => p * q) f1 f2)
      (congrArg₂ (fun p q : EReal => p * q) f0 f3)).trans ?_
    rw [if_neg e]
    simp only [e2, e3, coe_mul, coe_add]

end Rope

end
-- ==== Proof.Pre.lean ====
/- The precondition, read back: what its word being one says of the arguments. -/
module

public import proofs.«01_k».proof.Proof.Inputs
public import proofs.«01_k».proof.Proof.Gen.Pre_tame
public import Idealize.ShloMosaic.Lib.ReduceAll
public import Idealize.ShloMosaic.Lib.Affine

@[expose] public section

noncomputable section

namespace Rope

open Idealize.ShloMosaic Cert.Pre_tame Cert.Pre_tame.Gen

/-- A decided comparison whose word is one holds. -/
theorem holds_of_word {p : Prop} [Decidable p] (h : BitVec.ofBool (decide p) = 1#1) : p := by
  by_contra q
  rw [decide_eq_false q] at h
  exact absurd h (by decide)

/-- A strict bound on a magnitude, read back. -/
theorem real_of_word {x t : EReal} (ht : t = ⊤) (h : Ideal.cmp .olt (max x (-x)) t = 1#1) : ((x.toReal : ℝ) : EReal) = x := by
  subst ht
  exact coe_toReal_of_abs (holds_of_word h)

variable (x : FVec Ideal S2x2048x16x64 .f32) (w : FVec Ideal S64x64 .f32) (β : FVec Ideal S64 .f32) (γ : FVec Ideal S1 .f32)

/-- The content the precondition computes. -/
def preContent : FVec Ideal S2x2048x16x64 .f32 :=
  Host.dotGeneral (F := Ideal) dot_S2x2048x16x64_S64x64_S2x2048x16x64_3_0_012_1_n_n none x
    (transpose S64x64 [1, 0] w Facts.transposes_S64x64_S64x64_1_0)

/-- It is the content, of real arguments. -/
theorem preContent_apply (hx : ∀ b s h d, (((x (ix4 b s h d)).toReal : ℝ) : EReal) = x (ix4 b s h d))
    (hw : ∀ d k, (((w (ix2 d k)).toReal : ℝ) : EReal) = w (ix2 d k)) (b : Fin 2) (s : Fin 2048) (h : Fin 16) (d : Fin 64) :
    preContent x w (ix4 b s h d) = ((contents x w b h s.val d : ℝ) : EReal) := by
  have hx' : ∀ k : Fin 64, x (ix4 b s h k) = ((rows x b h s.val k.val : ℝ) : EReal) := fun k => by rw [rows_eq, hx]
  have hw' : ∀ k : Fin 64, w (ix2 d k) = ((weights w d k : ℝ) : EReal) := fun k => (hw d k).symm
  pointwise [preContent, dot_S2x2048x16x64_S64x64_S2x2048x16x64_3_0_012_1_n_n]
  simp only [hx', hw', coe_mul, coe_sum]
  rfl

/-- The squared step the precondition computes, of a content `v`. -/
def preStep1 (v : FVec Ideal S2x2048x16x64 .f32) : FVec Ideal S2x2047x16 .f32 :=
  Host.reduceAdd
    (mulf
      (subf (extractStridedSlice S2x2047x16x64 ![0, 0, 0, 0] v Facts.slices_S2x2048x16x64_S2x2047x16x64_0_0_0_0)
        (extractStridedSlice S2x2047x16x64 ![0, 1, 0, 0] v Facts.slices_S2x2048x16x64_S2x2047x16x64_0_1_0_0))
      (subf (extractStridedSlice S2x2047x16x64 ![0, 0, 0, 0] v Facts.slices_S2x2048x16x64_S2x2047x16x64_0_0_0_0)
        (extractStridedSlice S2x2047x16x64 ![0, 1, 0, 0] v Facts.slices_S2x2048x16x64_S2x2047x16x64_0_1_0_0)))
    (constant S_ FTy.f32 0#32) Facts.reducesTo_S2x2047x16x64_S2x2047x16_d3 Facts.h_S_

/-- The length of the step of two the precondition computes, of a content `v`. -/
def preStep2 (v : FVec Ideal S2x2048x16x64 .f32) : FVec Ideal S2x2046x16 .f32 :=
  Host.sqrt (Host.reduceAdd
    (mulf
      (subf (extractStridedSlice S2x2046x16x64 ![0, 0, 0, 0] v Facts.slices_S2x2048x16x64_S2x2046x16x64_0_0_0_0)
        (extractStridedSlice S2x2046x16x64 ![0, 2, 0, 0] v Facts.slices_S2x2048x16x64_S2x2046x16x64_0_2_0_0))
      (subf (extractStridedSlice S2x2046x16x64 ![0, 0, 0, 0] v Facts.slices_S2x2048x16x64_S2x2046x16x64_0_0_0_0)
        (extractStridedSlice S2x2046x16x64 ![0, 2, 0, 0] v Facts.slices_S2x2048x16x64_S2x2046x16x64_0_2_0_0)))
    (constant S_ FTy.f32 0#32) Facts.reducesTo_S2x2046x16x64_S2x2046x16_d3 Facts.h_S_)

/-- The squared step is the content's. -/
theorem preStep1_apply (v : FVec Ideal S2x2048x16x64 .f32) (c : ℕ → Fin 64 → ℝ) (b : Fin 2) (h : Fin 16)
    (hv : ∀ s d, v (ix4 b s h d) = ((c s.val d : ℝ) : EReal)) (s : Fin 2047) :
    preStep1 v (ix3 b s h) = ((gap1 c s.val : ℝ) : EReal) := by
  pointwise [preStep1]
  simp only [hv, coe_sub, coe_mul, coe_sum]
  congr 1
  refine Finset.sum_congr rfl fun d _ => ?_
  rw [add_comm s.val 1]
  ring

/-- The length of the step of two is the content's. -/
theorem preStep2_apply (v : FVec Ideal S2x2048x16x64 .f32) (c : ℕ → Fin 64 → ℝ) (b : Fin 2) (h : Fin 16)
    (hv : ∀ s d, v (ix4 b s h d) = ((c s.val d : ℝ) : EReal)) (s : Fin 2046) :
    preStep2 v (ix3 b s h) = ((√(gap2 c s.val) : ℝ) : EReal) := by
  rw [← coe_sqrt _ (gap2_nonneg c s.val)]
  pointwise [preStep2]
  simp only [hv, coe_sub, coe_mul, coe_sum]
  congr 2
  refine Finset.sum_congr rfl fun d _ => ?_
  rw [add_comm s.val 2]
  ring

/-- A number that is zero or at least a bound, read back of the two comparisons. -/
theorem zero_or_le_of_word {u t : ℝ} {a z y : EReal} (ha : a = ((u : ℝ) : EReal)) (hz : z = 0) (hy : y = ((t : ℝ) : EReal))
    (h : IntOp.ori (Ideal.cmp .oeq a z) (Ideal.cmp .oge a y) = 1#1) : u = 0 ∨ t ≤ u := by
  subst ha hz hy
  rcases IntOp.ori_eq_one.1 h with h | h
  · left; exact_mod_cast (holds_of_word h : ((u : ℝ) : EReal) = 0)
  · right; exact_mod_cast (holds_of_word h : ((t : ℝ) : EReal) ≤ ((u : ℝ) : EReal))

/-- What the precondition's word being one says of the arguments. -/
theorem tame_of_pre (e : Cert.Pre_tame.fn (F := Ideal) x w β γ = fun _ => 1#1) : Tame x w β γ := by
  have e := congrFun e (fun a => a.elim0)
  unfold Cert.Pre_tame.fn Cert.Pre_tame.fn_part1 Cert.Pre_tame.fn_part2 at e
  dsimp only at e
  simp only [andi] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  have hx : ∀ b s h d, (((x (ix4 b s h d)).toReal : ℝ) : EReal) = x (ix4 b s h d) := by
    intro b s h d
    have q := Host.reduce_andi_all _ _ _ _ _ e1 (ix4 b s h d)
    exact real_of_word word_inf q
  have hw : ∀ d k, (((w (ix2 d k)).toReal : ℝ) : EReal) = w (ix2 d k) := by
    intro d k
    have q := Host.reduce_andi_all _ _ _ _ _ e2 (ix2 d k)
    exact real_of_word word_inf q
  have hb : ∀ d, (((β (ix1 d)).toReal : ℝ) : EReal) = β (ix1 d) := by
    intro d
    have q := Host.reduce_andi_all _ _ _ _ _ e3 (ix1 d)
    exact real_of_word word_inf q
  obtain ⟨g0, g2⟩ := IntOp.andi_eq_one.1 (Host.reduce_andi_all _ _ _ _ _ e4 (ix1 0))
  have g0 : Ideal.cmp .oge (γ (ix1 0)) (Ideal.ofBits FTy.f32 0x00000000#32) = 1#1 := g0
  have g2 : Ideal.cmp .ole (γ (ix1 0) * Ideal.ofBits FTy.f32 0x3DCCCCCD#32) (Ideal.ofBits FTy.f32 0x40000000#32) = 1#1 := g2
  have f1 : ∀ b s h, _ := fun b s h => Host.reduce_andi_all _ _ _ _ _ e5 (ix3 b s h)
  have f2 : ∀ b s h, _ := fun b s h => Host.reduce_andi_all _ _ _ _ _ e6 (ix3 b s h)
  have g0 : (0 : EReal) ≤ γ (ix1 0) := by
    have z : Ideal.ofBits FTy.f32 0x00000000#32 = 0 := by pointwise
    rw [z] at g0
    exact holds_of_word g0
  have g2 : γ (ix1 0) * ((tenth : ℝ) : EReal) ≤ ((2 : ℝ) : EReal) := by
    rw [word_tenth, word_two] at g2
    exact holds_of_word g2
  have hg : (((γ (ix1 0)).toReal : ℝ) : EReal) = γ (ix1 0) := by
    refine EReal.coe_toReal ?_ ?_
    · intro h
      rw [h, EReal.top_mul_coe_of_pos tenth_pos] at g2
      exact absurd g2 (not_le.2 (EReal.coe_lt_top 2))
    · intro h
      rw [h] at g0
      exact absurd g0 (not_le.2 EReal.bot_lt_zero)
  have z0 : Ideal.ofBits FTy.f32 0x00000000#32 = 0 := by pointwise
  refine ⟨hx, hw, hb, hg, ?_, ?_, ?_, ?_⟩
  · rw [← hg] at g0
    exact_mod_cast g0
  · rw [← hg, coe_mul] at g2
    exact_mod_cast g2
  · intro b h i hi
    exact zero_or_le_of_word (preStep1_apply (preContent x w) (contents x w b h) b h
      (fun s d => preContent_apply x w hx hw b s h d) ⟨i, hi⟩) z0 word_tiny (f1 b ⟨i, hi⟩ h)
  · intro b h i hi
    exact zero_or_le_of_word (preStep2_apply (preContent x w) (contents x w b h) b h
      (fun s d => preContent_apply x w hx hw b s h d) ⟨i, hi⟩) z0 word_clip (f2 b ⟨i, hi⟩ h)

end Rope

end
-- ==== Proof.lean ====
module

public import proofs.«01_k».proof.Defs
public import proofs.«01_k».proof.Proof.Array
public import proofs.«01_k».proof.Proof.RefResult
public import proofs.«01_k».proof.Proof.Pre
public import proofs.«01_k».proof.Proof.Gen.KernelIdeal.Value
public import proofs.«01_k».proof.Proof.Gen.ReferenceIdeal.Run
public import proofs.«01_k».proof.Proof.Gen.Pre_tame
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Idealize.ShloMosaic.StableHlo

/-- The kernel as printed runs, leaves its arguments and its counters as they were. -/
theorem frame_kernel : Cert.quiescent_Kernel := fun m ρ _ => Cert.Kernel.Gen.frame m ρ

/-- The idealized kernel runs, leaves its arguments and its counters as they were. -/
theorem frame_ideal : Cert.quiescent_KernelIdeal := fun m ρ _ => Cert.KernelIdeal.Gen.frame m ρ

/-- The same from a tame memory. -/
theorem frame_ideal_tame : Cert.quiescent_KernelIdeal_pre_tame := fun m ρ _ => Cert.KernelIdeal.Gen.frame m ρ

/-- The reference runs, leaves its arguments and its counters as they were. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same from a tame memory. -/
theorem frame_reference_tame : Cert.quiescent_ReferenceIdeal_pre_tame := fun m ρ _ => frame_reference m ρ trivial

/-- The two constants of the kernel that are read as the reals they stand for. -/
theorem named : Cert.preserves_Kernel_KernelIdeal :=
  ⟨IdealRules.named_const.statement Cert.KernelIdeal.κ "clip_squared" .f32 0x2B8CBCCC#32
      ((77371252064649 / 77371252455336267181195264 : ℝ) : EReal) rfl,
    IdealRules.named_const.statement Cert.KernelIdeal.κ "scale_over_count" .f32 0x384D000D#32
      ((13421773 / 274609471488 : ℝ) : EReal) rfl⟩

/-- From tame arguments the kernel and the reference end with equal results. -/
theorem equal_results : Cert.algebraic_KernelIdeal_ReferenceIdeal_pre_tame := by
  intro m ρ m' ρ' pre agree
  refine ⟨_, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3⟩ := agree c
  have H := Rope.tame_of_pre _ _ _ _ (pre c)
  have H' : Rope.Tame (Rope.argX (launchContents m' c)) (Rope.argW (launchContents m' c))
      (Rope.argB (launchContents m' c)) (Rope.argG (launchContents m' c)) := by
    have H2 := H
    rw [← e0, ← e1, ← e2, ← e3] at H2
    exact H2
  have key : Rope.refOut (launchContents m' c) = (Cert.KernelIdeal.Gen.dats m 0 c).arrAt 9 Cert.KernelIdeal.cfg0.N := by
    funext i
    obtain ⟨b, s, h, d, rfl⟩ : ∃ b s h d, i = ix4 b s h d := ⟨i 0, i 1, i 2, i 3, by
      funext a
      match a with
      | ⟨0, _⟩ => rfl
      | ⟨1, _⟩ => rfl
      | ⟨2, _⟩ => rfl
      | ⟨3, _⟩ => rfl⟩
    refine (Rope.ref_result H' b s h d).trans ((Rope.array_apply m c H b s h d).trans ?_).symm
    have a0 : Rope.argX (launchContents m' c) = _ := e0
    have a1 : Rope.argW (launchContents m' c) = _ := e1
    have a3 : Rope.argG (launchContents m' c) = _ := e3
    rw [a0, a1, a3]
  exact key

/-- Everything the certificate claims. -/
theorem claim : Cert.Claim :=
  ⟨Cert.Kernel.Gen.facts, Cert.KernelIdeal.Gen.facts, Cert.ReferenceIdeal.Gen.facts, Cert.Pre_tame.Gen.facts,
    frame_kernel, frame_ideal, frame_ideal_tame, frame_reference, frame_reference_tame, named, equal_results⟩

end Cert.Proof

end
